-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 4096, 16, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 4096, 16, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  bcast_S_S16x1024x16x64 : S_.BroadcastsInDim S16x1024x16x64 (![] : Fin 0 → Fin S16x1024x16x64.rank)
  bcast_S16x1x16x64_S16x1024x16x64_0_1_2_3 : S16x1x16x64.BroadcastsInDim S16x1024x16x64 (![0, 1, 2, 3] : Fin 4 → Fin S16x1024x16x64.rank)

variable [Facts]

def fn {F : FTy → Type} [FloatOps F] (main_arg0 : FVec F S16x1x16x64 .f32) (main_arg1 : FVec F S16x1024x16x64 .f32) (main_arg2 : FVec F S16x1024x16x64 .f32) : IVec S16x1024x16x64 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_v3 : FVec F S16x1024x16x64 .f32 := Host.absf main_arg1
  let main_cst_0 : FVec F S_ .f32 := constant S_ .f32 0x7F800000#32
  let main_v4 : FVec F S16x1024x16x64 .f32 := broadcastInDim S16x1024x16x64 ![] bcast_S_S16x1024x16x64 main_cst_0
  let main_v5 : IVec S16x1024x16x64 1 := cmpf .olt main_v3 main_v4
  let main_v6 : IVec S16x1024x16x64 1 := broadcastInDim S16x1024x16x64 ![0, 1, 2, 3] bcast_S16x1x16x64_S16x1024x16x64_0_1_2_3 main_v2
  let main_v7 : IVec S16x1024x16x64 1 := andi main_v6 main_v5
  main_v7
-- ==== Pre_finite_scores_ReferenceIdeal.lean ====
abbrev S16x1x16x64 : Shape := ⟨4, ![16, 1, 16, 64]⟩
abbrev S16x4096x16x64 : Shape := ⟨4, ![16, 4096, 16, 64]⟩
abbrev S_ : Shape := ⟨0, ![]⟩

class Facts : Prop where
  bcast_S_S16x1x16x64 : S_.BroadcastsInDim S16x1x16x64 (![] : Fin 0 → Fin S16x1x16x64.rank)
  bcast_S_S16x4096x16x64 : S_.BroadcastsInDim S16x4096x16x64 (![] : Fin 0 → Fin S16x4096x16x64.rank)
  bcast_S16x1x16x64_S16x4096x16x64_0_1_2_3 : S16x1x16x64.BroadcastsInDim S16x4096x16x64 (![0, 1, 2, 3] : Fin 4 → Fin S16x4096x16x64.rank)

variable [Facts]

def fn {F : FTy → Type} [FloatOps F] (main_arg0 : FVec F S16x1x16x64 .f32) (main_arg1 : FVec F S16x4096x16x64 .f32) (main_arg2 : FVec F S16x4096x16x64 .f32) : IVec S16x4096x16x64 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_v3 : FVec F S16x4096x16x64 .f32 := Host.absf main_arg1
  let main_cst_0 : FVec F S_ .f32 := constant S_ .f32 0x7F800000#32
  let main_v4 : FVec F S16x4096x16x64 .f32 := broadcastInDim S16x4096x16x64 ![] bcast_S_S16x4096x16x64 main_cst_0
  let main_v5 : IVec S16x4096x16x64 1 := cmpf .olt main_v3 main_v4
  let main_v6 : IVec S16x4096x16x64 1 := broadcastInDim S16x4096x16x64 ![0, 1, 2, 3] bcast_S16x1x16x64_S16x4096x16x64_0_1_2_3 main_v2
  let main_v7 : IVec S16x4096x16x64 1 := andi main_v6 main_v5
  main_v7
-- ==== Kernel.lean ====
abbrev S16x1x16x64 : Shape := ⟨4, ![16, 1, 16, 64]⟩
abbrev S16x1024x16x64 : Shape := ⟨4, ![16, 1024, 16, 64]⟩
abbrev S16x1024x1024 : Shape := ⟨3, ![16, 1024, 1024]⟩
abbrev S16x3x1024 : Shape := ⟨3, ![16, 3, 1024]⟩
abbrev S1x1x16x64 : Shape := ⟨4, ![1, 1, 16, 64]⟩
abbrev S1x1024x1024 : Shape := ⟨3, ![1, 1024, 1024]⟩
abbrev S1x3x1024 : Shape := ⟨3, ![1, 3, 1024]⟩
abbrev S16x64 : Shape := ⟨2, ![16, 64]⟩
abbrev S1024x1024 : Shape := ⟨2, ![1024, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩
abbrev S1x1024 : Shape := ⟨2, ![1, 1024]⟩
abbrev S3x1024 : Shape := ⟨2, ![3, 1024]⟩
abbrev S16x1x1024 : Shape := ⟨3, ![16, 1, 1024]⟩
abbrev S4x16x3x1024 : Shape := ⟨4, ![4, 16, 3, 1024]⟩
abbrev S3 : Shape := ⟨1, ![3]⟩
abbrev S4 : Shape := ⟨1, ![4]⟩
abbrev S_ : Shape := ⟨0, ![]⟩
abbrev S1x16x3x1024 : Shape := ⟨4, ![1, 16, 3, 1024]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S16x1024x1024, .f32⟩
  | .hbm, ⟨4, _⟩ => ⟨S16x1024x1024, .f32⟩
  | .hbm, ⟨5, _⟩ => ⟨S16x3x1024, .f32⟩
  | .hbm, ⟨6, _⟩ => ⟨S16x1x1024, .f32⟩
  | .hbm, ⟨7, _⟩ => ⟨S16x1x16x64, .f32⟩
  | .local _ .vmem, ⟨0, _⟩ => ⟨S1x1x16x64, .f32⟩
  | .local _ .vmem, ⟨1, _⟩ => ⟨S1x1x16x64, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x3x1024, .f32⟩
  | .local _ .vmem, ⟨7, _⟩ => ⟨S1x3x1024, .f32⟩
  | .local _ .vmem, ⟨8, _⟩ => ⟨S16x3x1024, .f32⟩
  | .local _ .vmem, ⟨9, _⟩ => ⟨S16x1x1024, .f32⟩
  | .local _ .vmem, ⟨10, _⟩ => ⟨S4x16x3x1024, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev barrier0 : Sem sig := 0

abbrev nD : Nat := 32
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

def k1_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c4_i32_11 : BitVec 32 := 4#32
  let v23 : BitVec 32 := Scalar.muli v20 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k1_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v27 : BitVec 32 := Scalar.addi v5 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c4_i32_23 : BitVec 32 := 4#32
  let v40 : BitVec 32 := Scalar.muli v37 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k1_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v44 : BitVec 32 := Scalar.addi v5 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c4_i32_34 : BitVec 32 := 4#32
  let v57 : BitVec 32 := Scalar.muli v54 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k1_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_37 : BitVec 32 := 0#32
  let v61 : BitVec 1 := Scalar.cmpi .eq v5 c0_i32_37
  let v62 : BitVec 32 := Scalar.extui v61
  let c0_i32_38 : BitVec 32 := 0#32
  let v63 : BitVec 1 := Scalar.cmpi .ne v62 c0_i32_38
  v63

def k1_dev4 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v129 : BitVec 32 := Scalar.muli v2 c16_i32_73
  let v130 : BitVec 32 := Scalar.addi c0_i32_74 v129
  let c1_i32_72 : BitVec 32 := 1#32
  let c4_i32_75 : BitVec 32 := 4#32
  let v131 : BitVec 32 := Scalar.muli c1_i32_72 c4_i32_75
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v133 : BitVec 32 := Scalar.muli v8 c1_i32_76
  let v134 : BitVec 32 := Scalar.addi v132 v133
  v134.toNat
def k1_dev5 (d0 : Dev nD) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v143 : BitVec 32 := Scalar.muli v2 c16_i32_88
  let v144 : BitVec 32 := Scalar.addi c0_i32_89 v143
  let c2_i32_87 : BitVec 32 := 2#32
  let c4_i32_90 : BitVec 32 := 4#32
  let v145 : BitVec 32 := Scalar.muli c2_i32_87 c4_i32_90
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v147 : BitVec 32 := Scalar.muli v8 c1_i32_91
  let v148 : BitVec 32 := Scalar.addi v146 v147
  v148.toNat
def k1_dev6 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v157 : BitVec 32 := Scalar.muli v2 c16_i32_103
  let v158 : BitVec 32 := Scalar.addi c0_i32_104 v157
  let c3_i32_102 : BitVec 32 := 3#32
  let c4_i32_105 : BitVec 32 := 4#32
  let v159 : BitVec 32 := Scalar.muli c3_i32_102 c4_i32_105
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v161 : BitVec 32 := Scalar.muli v8 c1_i32_106
  let v162 : BitVec 32 := Scalar.addi v160 v161
  v162.toNat
def k1_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v64 : BitVec 1 := Scalar.cmpi .eq v5 c1_i32_39
  let v65 : BitVec 32 := Scalar.extui v64
  let c0_i32_40 : BitVec 32 := 0#32
  let v66 : BitVec 1 := Scalar.cmpi .ne v65 c0_i32_40
  v66

def k1_dev7 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v129 : BitVec 32 := Scalar.muli v2 c16_i32_73
  let v130 : BitVec 32 := Scalar.addi c0_i32_74 v129
  let c2_i32_72 : BitVec 32 := 2#32
  let c4_i32_75 : BitVec 32 := 4#32
  let v131 : BitVec 32 := Scalar.muli c2_i32_72 c4_i32_75
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v133 : BitVec 32 := Scalar.muli v8 c1_i32_76
  let v134 : BitVec 32 := Scalar.addi v132 v133
  v134.toNat
def k1_dev8 (d0 : Dev nD) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v143 : BitVec 32 := Scalar.muli v2 c16_i32_88
  let v144 : BitVec 32 := Scalar.addi c0_i32_89 v143
  let c3_i32_87 : BitVec 32 := 3#32
  let c4_i32_90 : BitVec 32 := 4#32
  let v145 : BitVec 32 := Scalar.muli c3_i32_87 c4_i32_90
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v147 : BitVec 32 := Scalar.muli v8 c1_i32_91
  let v148 : BitVec 32 := Scalar.addi v146 v147
  v148.toNat
def k1_dev9 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v157 : BitVec 32 := Scalar.muli v2 c16_i32_103
  let v158 : BitVec 32 := Scalar.addi c0_i32_104 v157
  let c0_i32_102 : BitVec 32 := 0#32
  let c4_i32_105 : BitVec 32 := 4#32
  let v159 : BitVec 32 := Scalar.muli c0_i32_102 c4_i32_105
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v161 : BitVec 32 := Scalar.muli v8 c1_i32_106
  let v162 : BitVec 32 := Scalar.addi v160 v161
  v162.toNat
def k1_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_41 : BitVec 32 := 2#32
  let v67 : BitVec 1 := Scalar.cmpi .eq v5 c2_i32_41
  let v68 : BitVec 32 := Scalar.extui v67
  let c0_i32_42 : BitVec 32 := 0#32
  let v69 : BitVec 1 := Scalar.cmpi .ne v68 c0_i32_42
  v69

def k1_dev10 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v129 : BitVec 32 := Scalar.muli v2 c16_i32_73
  let v130 : BitVec 32 := Scalar.addi c0_i32_74 v129
  let c3_i32_72 : BitVec 32 := 3#32
  let c4_i32_75 : BitVec 32 := 4#32
  let v131 : BitVec 32 := Scalar.muli c3_i32_72 c4_i32_75
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v133 : BitVec 32 := Scalar.muli v8 c1_i32_76
  let v134 : BitVec 32 := Scalar.addi v132 v133
  v134.toNat
def k1_dev11 (d0 : Dev nD) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v143 : BitVec 32 := Scalar.muli v2 c16_i32_88
  let v144 : BitVec 32 := Scalar.addi c0_i32_89 v143
  let c0_i32_87 : BitVec 32 := 0#32
  let c4_i32_90 : BitVec 32 := 4#32
  let v145 : BitVec 32 := Scalar.muli c0_i32_87 c4_i32_90
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v147 : BitVec 32 := Scalar.muli v8 c1_i32_91
  let v148 : BitVec 32 := Scalar.addi v146 v147
  v148.toNat
def k1_dev12 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v157 : BitVec 32 := Scalar.muli v2 c16_i32_103
  let v158 : BitVec 32 := Scalar.addi c0_i32_104 v157
  let c1_i32_102 : BitVec 32 := 1#32
  let c4_i32_105 : BitVec 32 := 4#32
  let v159 : BitVec 32 := Scalar.muli c1_i32_102 c4_i32_105
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v161 : BitVec 32 := Scalar.muli v8 c1_i32_106
  let v162 : BitVec 32 := Scalar.addi v160 v161
  v162.toNat
def k1_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_43 : BitVec 32 := 3#32
  let v70 : BitVec 1 := Scalar.cmpi .eq v5 c3_i32_43
  let v71 : BitVec 32 := Scalar.extui v70
  let c0_i32_44 : BitVec 32 := 0#32
  let v72 : BitVec 1 := Scalar.cmpi .ne v71 c0_i32_44
  v72

def k1_dev13 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v129 : BitVec 32 := Scalar.muli v2 c16_i32_73
  let v130 : BitVec 32 := Scalar.addi c0_i32_74 v129
  let c0_i32_72 : BitVec 32 := 0#32
  let c4_i32_75 : BitVec 32 := 4#32
  let v131 : BitVec 32 := Scalar.muli c0_i32_72 c4_i32_75
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v133 : BitVec 32 := Scalar.muli v8 c1_i32_76
  let v134 : BitVec 32 := Scalar.addi v132 v133
  v134.toNat
def k1_dev14 (d0 : Dev nD) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v143 : BitVec 32 := Scalar.muli v2 c16_i32_88
  let v144 : BitVec 32 := Scalar.addi c0_i32_89 v143
  let c1_i32_87 : BitVec 32 := 1#32
  let c4_i32_90 : BitVec 32 := 4#32
  let v145 : BitVec 32 := Scalar.muli c1_i32_87 c4_i32_90
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v147 : BitVec 32 := Scalar.muli v8 c1_i32_91
  let v148 : BitVec 32 := Scalar.addi v146 v147
  v148.toNat
def k1_dev15 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v157 : BitVec 32 := Scalar.muli v2 c16_i32_103
  let v158 : BitVec 32 := Scalar.addi c0_i32_104 v157
  let c2_i32_102 : BitVec 32 := 2#32
  let c4_i32_105 : BitVec 32 := 4#32
  let v159 : BitVec 32 := Scalar.muli c2_i32_102 c4_i32_105
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v161 : BitVec 32 := Scalar.muli v8 c1_i32_106
  let v162 : BitVec 32 := Scalar.addi v160 v161
  v162.toNat
abbrev stage1_0 : Fin 1 → Memref sig .tc .vmem S16x3x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S16x1x16x64 : Shape := ⟨4, ![16, 1, 16, 64]⟩
abbrev S16x4096x16x64 : Shape := ⟨4, ![16, 4096, 16, 64]⟩
abbrev S16x16x1x4096 : Shape := ⟨4, ![16, 16, 1, 4096]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x4096x16x64, .f32⟩
  | .hbm, ⟨2, _⟩ => ⟨S16x4096x16x64, .f32⟩
  | .hbm, ⟨3, _⟩ => ⟨S16x16x1x4096, .f32⟩
  | .hbm, ⟨4, _⟩ => ⟨S_, .f32⟩
  | .hbm, ⟨5, _⟩ => ⟨S16x16x1x4096, .f32⟩
  | .hbm, ⟨6, _⟩ => ⟨S16x16x1x4096, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x4096, .f32⟩
  | .hbm, ⟨11, _⟩ => ⟨S16x16x1x4096, .f32⟩
  | .hbm, ⟨12, _⟩ => ⟨S16x16x1x4096, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x4096, .f32⟩
  | .hbm, ⟨17, _⟩ => ⟨S16x16x1x4096, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Line.lean ====
/-
  The line of four devices along the mesh's second axis, and the four slots of the scratch buffer.

  Device `c` of the 32 stands at `(c / 16, c / 4 % 4, c % 4)`. The kernel talks along the second coordinate only: `place c`
  is that coordinate, `atPlace c j` the device at place `j` on the line of `c`, and `shift k c` the device `k` places
  further round the line. The scratch buffer `4 × 16 × 3 × 1024` is four slots, slot `j` the elements whose leading
  coordinate is `j`; `gathered P c` is the buffer with slot `j` holding `P` of the device at place `j` on the line.
-/
module

public import proofs.«01_k».proof.Proof.Gen.KernelIdeal.Skeleton
public import proofs.«01_k».proof.Proof.Gen.KernelIdeal.Points
public import Idealize.ShloMosaic.Lib.Pipeline.StackWindow

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Places on the line -/

/-- The device's coordinate along the line. -/
def place (c : Dev nD) : Fin 4 := ⟨c.val / 4 % 4, Nat.mod_lt _ (by decide)⟩

/-- The device at place `j` on the line of `c`. -/
def atPlace (c : Dev nD) (j : Fin 4) : Dev nD :=
  ⟨16 * (c.val / 16) + 4 * j.val + c.val % 4, by have := c.isLt; have := j.isLt; unfold nD at *; omega⟩

/-- The device `k` places further round the line of `c`. -/
def shift (k : Fin 4) (c : Dev nD) : Dev nD := atPlace c (place c + k)

theorem place_atPlace : ∀ (c : Dev nD) (j : Fin 4), place (atPlace c j) = j := by decide +kernel
theorem atPlace_atPlace : ∀ (c : Dev nD) (i j : Fin 4), atPlace (atPlace c i) j = atPlace c j := by decide +kernel
theorem atPlace_place : ∀ c : Dev nD, atPlace c (place c) = c := by decide +kernel

theorem place_shift (k : Fin 4) (c : Dev nD) : place (shift k c) = place c + k := place_atPlace c _
theorem atPlace_shift (k : Fin 4) (c : Dev nD) (j : Fin 4) : atPlace (shift k c) j = atPlace c j := atPlace_atPlace c _ j
theorem shift_shift (k l : Fin 4) (c : Dev nD) : shift k (shift l c) = shift (l + k) c := by
  unfold shift; rw [place_atPlace, atPlace_atPlace, add_assoc]
theorem shift_zero (c : Dev nD) : shift 0 c = c := by unfold shift; rw [add_zero, atPlace_place]
theorem shift_neg (k : Fin 4) (c : Dev nD) : shift k (shift (-k) c) = c := by rw [shift_shift, neg_add_cancel, shift_zero]
theorem neg_shift (k : Fin 4) (c : Dev nD) : shift (-k) (shift k c) = c := by rw [shift_shift, add_neg_cancel, shift_zero]
theorem shift_inj (k : Fin 4) {c d : Dev nD} (h : shift k c = shift k d) : c = d := by
  rw [← neg_shift k c, h, neg_shift]

/-- The shift by `k` places as a bijection of the devices. -/
def shiftEquiv (k : Fin 4) : Dev nD ≃ Dev nD := ⟨shift k, shift (-k), neg_shift k, shift_neg k⟩

/-! ## The devices and the branch conditions the program computes -/

theorem dev1_eq : ∀ c : Dev nD, (⟨k1_dev1 c, k1_dev1_lt c⟩ : Dev nD) = shift 1 c := by decide +kernel
theorem dev2_eq : ∀ c : Dev nD, (⟨k1_dev2 c, k1_dev2_lt c⟩ : Dev nD) = shift 2 c := by decide +kernel
theorem dev3_eq : ∀ c : Dev nD, (⟨k1_dev3 c, k1_dev3_lt c⟩ : Dev nD) = shift 3 c := by decide +kernel

theorem cond1_iff : ∀ c : Dev nD, k1_cond1 c = 1#1 ↔ place c = 0 := by decide +kernel
theorem cond2_iff : ∀ c : Dev nD, k1_cond2 c = 1#1 ↔ place c = 1 := by decide +kernel
theorem cond3_iff : ∀ c : Dev nD, k1_cond3 c = 1#1 ↔ place c = 2 := by decide +kernel
theorem cond4_iff : ∀ c : Dev nD, k1_cond4 c = 1#1 ↔ place c = 3 := by decide +kernel

private theorem shift_val {k : Fin 4} {c : Dev nD} {y : Fin 4} (h : place c = y) :
    (shift k c).val = 16 * (c.val / 16) + 4 * (y + k).val + c.val % 4 := by unfold shift atPlace; rw [h]

theorem dev4_eq (c : Dev nD) (h : place c = 0) : k1_dev4 c = (shift 1 c).val := by
  rw [shift_val h, k1_dev4_eq]; show _ = 16 * (c.val / 16) + 4 * 1 + c.val % 4; omega
theorem dev5_eq (c : Dev nD) (h : place c = 0) : k1_dev5 c = (shift 2 c).val := by
  rw [shift_val h, k1_dev5_eq]; show _ = 16 * (c.val / 16) + 4 * 2 + c.val % 4; omega
theorem dev6_eq (c : Dev nD) (h : place c = 0) : k1_dev6 c = (shift 3 c).val := by
  rw [shift_val h, k1_dev6_eq]; show _ = 16 * (c.val / 16) + 4 * 3 + c.val % 4; omega
theorem dev7_eq (c : Dev nD) (h : place c = 1) : k1_dev7 c = (shift 1 c).val := by
  rw [shift_val h, k1_dev7_eq]; show _ = 16 * (c.val / 16) + 4 * 2 + c.val % 4; omega
theorem dev8_eq (c : Dev nD) (h : place c = 1) : k1_dev8 c = (shift 2 c).val := by
  rw [shift_val h, k1_dev8_eq]; show _ = 16 * (c.val / 16) + 4 * 3 + c.val % 4; omega
theorem dev9_eq (c : Dev nD) (h : place c = 1) : k1_dev9 c = (shift 3 c).val := by
  rw [shift_val h, k1_dev9_eq]; show _ = 16 * (c.val / 16) + 4 * 0 + c.val % 4; omega
theorem dev10_eq (c : Dev nD) (h : place c = 2) : k1_dev10 c = (shift 1 c).val := by
  rw [shift_val h, k1_dev10_eq]; show _ = 16 * (c.val / 16) + 4 * 3 + c.val % 4; omega
theorem dev11_eq (c : Dev nD) (h : place c = 2) : k1_dev11 c = (shift 2 c).val := by
  rw [shift_val h, k1_dev11_eq]; show _ = 16 * (c.val / 16) + 4 * 0 + c.val % 4; omega
theorem dev12_eq (c : Dev nD) (h : place c = 2) : k1_dev12 c = (shift 3 c).val := by
  rw [shift_val h, k1_dev12_eq]; show _ = 16 * (c.val / 16) + 4 * 1 + c.val % 4; omega
theorem dev13_eq (c : Dev nD) (h : place c = 3) : k1_dev13 c = (shift 1 c).val := by
  rw [shift_val h, k1_dev13_eq]; show _ = 16 * (c.val / 16) + 4 * 0 + c.val % 4; omega
theorem dev14_eq (c : Dev nD) (h : place c = 3) : k1_dev14 c = (shift 2 c).val := by
  rw [shift_val h, k1_dev14_eq]; show _ = 16 * (c.val / 16) + 4 * 1 + c.val % 4; omega
theorem dev15_eq (c : Dev nD) (h : place c = 3) : k1_dev15 c = (shift 3 c).val := by
  rw [shift_val h, k1_dev15_eq]; show _ = 16 * (c.val / 16) + 4 * 2 + c.val % 4; omega

/-! ## The slots of the scratch buffer -/

/-- Slot `j` lies in the buffer. -/
theorem slot_inb (j : Fin 4) : ∀ a, (![j.val, 0, 0, 0] : Fin 4 → ℕ) a + S1x16x3x1024.size a ≤ S4x16x3x1024.size a := by
  revert j; decide

/-- The rectangle of slot `j`. -/
abbrev slotRect (j : Fin 4) : Rect S4x16x3x1024 := Rect.unit (s := S4x16x3x1024) ![j.val, 0, 0, 0] S1x16x3x1024.size (slot_inb j)

/-- The scratch buffer as the kernel takes it. -/
abbrev scrM : Memref sig .tc .vmem S4x16x3x1024 .f32 := Memref.whole cc1_scratch0

/-- Slot `j` as the kernel's copies name it: the slice, its leading unit axis dropped. -/
abbrev slotM (j : Fin 4) : Memref sig .tc .vmem S16x3x1024 .f32 :=
  (scrM.slice (slotRect j) (fun _ => rfl)).squeeze S16x3x1024 squeezes_S1x16x3x1024_S16x3x1024

/-- The slot an element of the scratch buffer lies in. -/
def slotOf (i : S4x16x3x1024.Idx) : Fin 4 := i 0

/-- The elements of slot `j`. -/
def slotSet (j : Fin 4) : Finset S4x16x3x1024.Idx := Finset.univ.filter fun i => slotOf i = j

theorem mem_slotSet (j : Fin 4) (i : S4x16x3x1024.Idx) : i ∈ slotSet j ↔ slotOf i = j := by
  unfold slotSet; rw [Finset.mem_filter]; exact ⟨fun h => h.2, fun h => ⟨Finset.mem_univ _, h⟩⟩

theorem slotRect_isMember (j : Fin 4) :
    StackWindow.IsMemberRect (G := 4) (![j.val, 0, 0, 0] : Fin 4 → ℕ) S1x16x3x1024.size ![16, 3, 1024] j :=
  ⟨rfl, by intro b; fin_cases b <;> rfl, rfl, by intro b; fin_cases b <;> rfl⟩

theorem slotRect_set (j : Fin 4) : (slotRect j).set = slotSet j := by
  ext i
  rw [(slotRect_isMember j).mem_set_iff i, mem_slotSet]
  exact ⟨fun h => Fin.ext h, fun h => congrArg Fin.val h⟩

theorem slotM_set (j : Fin 4) : (slotM j).view.set = slotSet j := by
  rw [← slotRect_set j]
  exact (View.set_reshape (v := (scrM.slice (slotRect j) (fun _ => rfl)).view) _).trans (View.set_slice_whole cc1_scratch0 (slotRect j))

theorem access_set (j : Fin 4) : ((scrM : Memref sig .tc .vmem S4x16x3x1024 .f32).access (slotRect j) : View sig .tc _ _ _).set = slotSet j := by
  rw [← slotRect_set j]; exact View.set_slice_whole cc1_scratch0 (slotRect j)

theorem slotSet_disjoint {i j : Fin 4} (h : i ≠ j) : Disjoint (slotSet i) (slotSet j) :=
  Finset.disjoint_left.mpr fun x hx hy => h (((mem_slotSet i x).mp hx).symm.trans ((mem_slotSet j x).mp hy))

/-! ## Contents -/

/-- The scratch buffer once every device's block has come: slot `j` holds `P` of the device at place `j`. -/
def gathered (P : Dev nD → (⟨S16x3x1024, .f32⟩ : BufTy).Contents (Elt F)) (c : Dev nD) : (cc1_scratch0 : Ref sig .tc).ty.Contents (Elt F) :=
  fun i => P (atPlace c (slotOf i)) (Fin.tail i)

variable (P : Dev nD → (⟨S16x3x1024, .f32⟩ : BufTy).Contents (Elt F))

theorem gathered_shift (k : Fin 4) (c : Dev nD) : gathered P (shift k c) = gathered P c := by
  unfold gathered; funext i; rw [atPlace_shift]

/-- Slot `j` of one device's buffer written with slot `j` of another's holds, on the slot, what the other's held. -/
theorem write_read_slot (j : Fin 4) (fd fs : (cc1_scratch0 : Ref sig .tc).ty.Contents (Elt F)) :
    ∀ i ∈ (slotM j).view.set, (slotM j).view.write (Elt F) fd ((slotM j).view.read (Elt F) fs) Finset.univ i = fs i := by
  intro i hi
  obtain ⟨z, -, rfl⟩ := Finset.mem_map.mp hi
  rw [View.write_emb_of_mem _ _ (Finset.mem_univ _), View.read_apply, cast_cast, cast_eq]

/-- An index of slot `j`'s block, in the buffer. -/
theorem slot_emb (j : Fin 4) : StackWindow.EmbedsMember (G := 4) (d := ![16, 3, 1024]) (slotRect j).emb j where
  leading y := by
    rw [Rect.emb_apply]; show j.val + 1 * (y 0).val = j.val
    have : (y 0).val < 1 := (y 0).isLt
    omega
  rest y b := by
    rw [Rect.emb_apply]
    fin_cases b <;> (show 0 + 1 * _ = _; omega)

end Cert.KernelIdeal.Exchange

end
-- ==== Proof.KernelIdeal.Protocol.lean ====
/-
  The exchange protocol of the second kernel: for each semaphore who waits, who signals or copies onto it, how much, and what each
  unit hands over.

  * the barrier cell of device `c`: each of the other three devices of the line signals one unit, device `shift (-k) c` under
    duty `k`; with the unit comes that device's slot number `place c` (at any contents) and the fact that its receive cell of that
    slot is at its round 0. Device `c` waits for the three units.
  * send cell `i` of device `c`: the copy to `shift (i + 1) c`; what it hands back is a share of `c`'s own slot.
  * receive cell `j` of device `c`, `j` not its own place: the copy from the device at place `j`; it hands over slot `j` of `c`,
    holding that device's block. The receive cell of `c`'s own place is never used.

  Every payload is stated at the same contents, `gathered P c`, which is one function for the whole line.
-/
module

public import proofs.«01_k».proof.Proof.KernelIdeal.Line
public import Idealize.ShloMosaic.Lib.Rounds
public import Idealize.ShloMosaic.Lib.Pipeline.Launch

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The staging protocol's copy of the round resources, and the exchange's. -/
abbrev UU : Type := URounds (GSem nD τ sig) Unit × URounds (GSem nD τ sig) (Fin 4)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 4)) (MT nD τ sig Unit (Elt F) ℕ UU ℕ) := embR

variable (P : Dev nD → (⟨S16x3x1024, .f32⟩ : BufTy).Contents (Elt F))

/-! ## Semaphores and cells -/

/-- The send semaphore of the `i`-th copy, and the receive semaphore of slot `j`. -/
def sendS (i : Fin 3) : DmaSem sig := ⟨10 + i.val, by have := i.isLt; show _ < 17; omega⟩
def recvS (j : Fin 4) : DmaSem sig := ⟨13 + j.val, by have := j.isLt; show _ < 17; omega⟩

abbrev barCell (c : Dev nD) : GSem nD τ sig := ((c : Thread nD τ), .reg barrier0)
abbrev sendCell (c : Dev nD) (i : Fin 3) : GSem nD τ sig := ((c : Thread nD τ), .dma (sendS i))
abbrev recvCell (c : Dev nD) (j : Fin 4) : GSem nD τ sig := ((c : Thread nD τ), .dma (recvS j))

/-- The part a semaphore plays in the exchange. -/
inductive Role
  | bar
  | send (i : Fin 3)
  | recv (j : Fin 4)
  | idle
  deriving DecidableEq

def role : SemLoc sig → Role
  | .reg _ => .bar
  | .dma s => if h : 13 ≤ s.val then .recv ⟨s.val - 13, by have : s.val < 17 := s.isLt; omega⟩
      else if h' : 10 ≤ s.val then .send ⟨s.val - 10, by omega⟩ else .idle

theorem role_bar : role (.reg barrier0) = .bar := rfl
theorem role_send (i : Fin 3) : role (.dma (sendS i)) = .send i := by revert i; decide
theorem role_recv (j : Fin 4) : role (.dma (recvS j)) = .recv j := by revert j; decide

/-- What one copy of a slot credits. -/
abbrev N : ℕ := (slotM 0).view.dmaCredit
theorem N_pos : 0 < N := View.dmaCredit_pos _ (by decide)
theorem N_slot (j : Fin 4) : (slotM j).view.dmaCredit = N := rfl

/-- Slot `j` of device `c`'s scratch buffer, held at contents `f`. -/
abbrev slotPts (c : Dev nD) (j : Fin 4) (q : PosShare TreeShare) (f : (cc1_scratch0 : Ref sig .tc).ty.Contents (Elt F)) : sProp 𝕄 :=
  (slotM j).view.loc (c : Thread nD τ) ↦[(slotM j).view.set]{q} f

/-- The share of the own slot that the `i`-th copy reads through. -/
def part : Fin 3 → PosShare TreeShare
  | 0 => fullShare.left
  | 1 => fullShare.right.left
  | 2 => fullShare.right.right

/-! ## The schedule -/

/-- The duties of a cell's one round, by the part it plays. -/
def roleDuties (c : Dev nD) : Role → Finset (Fin 4)
  | .bar => {1, 2, 3}
  | .send _ => {0}
  | .recv j => if j = place c then ∅ else {0}
  | .idle => ∅

/-- With duty `k`'s barrier unit: the signaller's slot `place c`, and that its receive cell of that slot is at round 0. -/
def barPay (c : Dev nD) (k : Fin 4) : sProp 𝕄 :=
  iprop((∃ f, slotPts (shift (-k) c) (place c) fullShare f) ∗ reached ER (recvCell (shift (-k) c) (place c)) 0)

def rolePay (c : Dev nD) (k : Fin 4) : Role → sProp 𝕄
  | .bar => barPay c k
  | .send i => slotPts c (place c) (part i) (gathered P c)
  | .recv j => slotPts c j fullShare (gathered P c)
  | .idle => iprop(emp)

def xRd : Rounds.Schedule (GSem nD τ sig) (Fin 4) 𝕄 where
  duties g r := if r = 0 ∧ g.1.2 = .tc then roleDuties g.1.1 (role g.2) else ∅
  unitless _ := False
  amount g _ _ := if role g.2 = .bar then 1 else N
  payload g _ d := rolePay P g.1.1 d (role g.2)
  amount_pos g _ _ _ := by
    by_cases h : role g.2 = .bar
    · rw [if_pos h]; exact Nat.one_pos
    · rw [if_neg h]; exact N_pos

instance xRd_payload_storable (g : GSem nD τ sig) (r : ℕ) (d : Fin 4) :
    BI.Storable (upEmb : UEmb _ 𝕄) ((xRd P).payload g r d) := by
  show BI.Storable upEmb (rolePay P g.1.1 d (role g.2))
  cases role g.2 <;> dsimp only [rolePay] <;> (try unfold barPay) <;> infer_instance

section Sched
variable (c : Dev nD)

theorem duties_bar : (xRd P).duties (barCell c) 0 = {1, 2, 3} := by
  dsimp only [xRd]; rw [if_pos ⟨rfl, rfl⟩, role_bar]; rfl
theorem duties_send (i : Fin 3) : (xRd P).duties (sendCell c i) 0 = {0} := by
  dsimp only [xRd]; rw [if_pos ⟨rfl, rfl⟩, role_send]; rfl
theorem duties_recv {j : Fin 4} (h : j ≠ place c) : (xRd P).duties (recvCell c j) 0 = {0} := by
  dsimp only [xRd]; rw [if_pos ⟨rfl, rfl⟩, role_recv]; exact if_neg h
theorem duties_own : (xRd P).duties (recvCell c (place c)) 0 = ∅ := by
  dsimp only [xRd]; rw [if_pos ⟨rfl, rfl⟩, role_recv]; exact if_pos rfl
theorem duties_later (g : GSem nD τ sig) : ∀ r, 1 ≤ r → (xRd P).duties g r = ∅ :=
  fun r hr => by dsimp only [xRd]; rw [if_neg (fun h => by omega)]
theorem duties_own_all : ∀ r, 0 ≤ r → (xRd P).duties (recvCell c (place c)) r = ∅ := fun r _ => by
  rcases Nat.eq_zero_or_pos r with rfl | h
  · exact duties_own P c
  · exact duties_later P _ r h

theorem amount_bar (d : Fin 4) : (xRd P).amount (barCell c) 0 d = 1 := by dsimp only [xRd]; exact if_pos rfl
theorem amount_send (i : Fin 3) (d : Fin 4) : (xRd P).amount (sendCell c i) 0 d = N := by
  dsimp only [xRd]; rw [role_send]; exact if_neg (by intro h; cases h)
theorem amount_recv (j : Fin 4) (d : Fin 4) : (xRd P).amount (recvCell c j) 0 d = N := by
  dsimp only [xRd]; rw [role_recv]; exact if_neg (by intro h; cases h)

theorem expect_bar : (xRd P).expect (barCell c) 0 = 3 := by
  unfold Schedule.expect Schedule.amountOf
  rw [duties_bar, Finset.sum_congr rfl fun d _ => amount_bar P c d]; rfl
theorem expect_send (i : Fin 3) : (xRd P).expect (sendCell c i) 0 = N := by
  unfold Schedule.expect Schedule.amountOf; rw [duties_send, Finset.sum_singleton, amount_send]
theorem expect_recv {j : Fin 4} (h : j ≠ place c) : (xRd P).expect (recvCell c j) 0 = N := by
  unfold Schedule.expect Schedule.amountOf; rw [duties_recv P c h, Finset.sum_singleton, amount_recv]

theorem payload_bar (d : Fin 4) : (xRd P).payload (barCell c) 0 d = barPay c d := by dsimp only [xRd]; rw [role_bar]; rfl
theorem payload_send (i : Fin 3) (d : Fin 4) :
    (xRd P).payload (sendCell c i) 0 d = slotPts c (place c) (part i) (gathered P c) := by dsimp only [xRd]; rw [role_send]; rfl
theorem payload_recv (j : Fin 4) (d : Fin 4) : (xRd P).payload (recvCell c j) 0 d = slotPts c j fullShare (gathered P c) := by
  dsimp only [xRd]; rw [role_recv]; rfl

/-- A conjunction over three different members. -/
theorem bigSep_three {x y z : Fin 4} (hxy : x ≠ y) (hxz : x ≠ z) (hyz : y ≠ z) (Φ : Fin 4 → sProp 𝕄) :
    bigSep {x, y, z} Φ = iprop(Φ x ∗ Φ y ∗ Φ z) := by
  rw [bigSep_insert (by simp [hxy, hxz]), bigSep_insert (by simpa using hyz), bigSep_singleton]; rfl

theorem rest_bar : bigSep ((xRd P).duties (barCell c) 0 \ ∅) (fun d => (xRd P).payload (barCell c) 0 d)
    = iprop(barPay c 1 ∗ barPay c 2 ∗ barPay c 3) := by
  rw [Finset.sdiff_empty, duties_bar, bigSep_three (by decide) (by decide) (by decide), payload_bar, payload_bar, payload_bar]
theorem rest_send (i : Fin 3) : bigSep ((xRd P).duties (sendCell c i) 0 \ ∅) (fun d => (xRd P).payload (sendCell c i) 0 d)
    = slotPts c (place c) (part i) (gathered P c) := by
  rw [Finset.sdiff_empty, duties_send, bigSep_singleton, payload_send]
theorem rest_recv {j : Fin 4} (h : j ≠ place c) : bigSep ((xRd P).duties (recvCell c j) 0 \ ∅) (fun d => (xRd P).payload (recvCell c j) 0 d)
    = slotPts c j fullShare (gathered P c) := by
  rw [Finset.sdiff_empty, duties_recv P c h, bigSep_singleton, payload_recv]

end Sched

/-! ## What each device owes at launch; the levels -/

/-- The receive credit owed to the device `k` places further, and the barrier unit owed to it. -/
abbrev dueRecv (k : Fin 4) (c : Dev nD) : CellTallies nD τ sig Unit := tallyAt (recvCell (shift k c) (place c)) () N
abbrev dueBar (k : Fin 4) (c : Dev nD) : CellTallies nD τ sig Unit := tallyAt (barCell (shift k c)) () 1

/-- The three receive credits, the first to be paid last in the sum. -/
def O₁ (c : Dev nD) : CellTallies nD τ sig Unit := dueRecv 3 c + dueRecv 2 c + dueRecv 1 c
/-- Everything owed at launch. -/
def O₀ (c : Dev nD) : CellTallies nD τ sig Unit := O₁ c + dueBar 3 c + dueBar 2 c + dueBar 1 c

def L (g : GSem nD τ sig) : Finset Unit := if g.1.2 = .tc then {()} else ∅
/-- Barrier cells at 1, receive cells at 2, the rest at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (j : Fin 4) : lv (recvCell c j) () = 2 := by unfold lv; rw [role_recv]

/-- A receive credit owed is at a receive cell; -/
theorem O₁_pos {c : Dev nD} {g : GSem nD τ sig} {i : Unit} (h : 0 < O₁ c g i) : ∃ d j, g = recvCell d j := by
  unfold O₁ at h
  rcases Pipeline.add_pos_cases h with h | h
  · rcases Pipeline.add_pos_cases h with h | h
    · exact ⟨_, _, (Pipeline.tallyAt_pos h).1⟩
    · exact ⟨_, _, (Pipeline.tallyAt_pos h).1⟩
  · exact ⟨_, _, (Pipeline.tallyAt_pos h).1⟩

/-- and anything owed at launch is at a barrier cell or a receive cell. -/
theorem O₀_pos {c : Dev nD} {g : GSem nD τ sig} {i : Unit} (h : 0 < O₀ c g i) :
    (∃ d, g = barCell d) ∨ ∃ d j, g = recvCell d j := by
  unfold O₀ at h
  rcases Pipeline.add_pos_cases h with h | h
  · rcases Pipeline.add_pos_cases h with h | h
    · rcases Pipeline.add_pos_cases h with h | h
      · exact .inr (O₁_pos h)
      · exact .inl ⟨_, (Pipeline.tallyAt_pos h).1⟩
    · exact .inl ⟨_, (Pipeline.tallyAt_pos h).1⟩
  · exact .inl ⟨_, (Pipeline.tallyAt_pos h).1⟩

/-- The wait on the own barrier cell, the three receive credits still owed. -/
theorem mayWait_bar (c : Dev nD) : (levAts L lv : sProp 𝕄) ⊢ MayWait (c : Thread nD τ) (.reg barrier0) () (O₁ c) :=
  Pipeline.mayWait_of_levAts (by rw [L_tc]; exact Finset.mem_singleton_self _) fun g i hg => by
    obtain ⟨d, j, rfl⟩ := O₁_pos hg
    exact ⟨by rw [L_tc]; exact Finset.mem_singleton_self _, by rw [lv_bar, lv_recv]; decide⟩

/-! ## Closing the cells -/

theorem close (κ : ℕ) (g : GSem nD τ sig) :
    iprop(cellInv ER (xRd P) κ g ∗ atPos ER g (0 + 1) ∅ 0) ⊢ (|={Set.univ}=> semVal g 0 : sProp 𝕄) :=
  Rounds.cell_close ER (xRd P) (Set.mem_univ κ) id (duties_later P g)
theorem close_own (κ : ℕ) (c : Dev nD) :
    iprop(cellInv ER (xRd P) κ (recvCell c (place c)) ∗ atPos ER (recvCell c (place c)) 0 ∅ 0)
      ⊢ (|={Set.univ}=> semVal (recvCell c (place c)) 0 : sProp 𝕄) :=
  Rounds.cell_close ER (xRd P) (Set.mem_univ κ) id (duties_own_all P c)

/-! ## Splitting and joining the scratch buffer -/

/-- The scratch buffer held whole is its four slots. -/
theorem scratch_slots (c : Dev nD) (f : (cc1_scratch0 : Ref sig .tc).ty.Contents (Elt F)) :
    ((scrM.view.loc (c : Thread nD τ) ↦{fullShare} f : sProp 𝕄)) = bigSep Finset.univ fun j : Fin 4 => slotPts c j fullShare f := by
  have hs : ∀ j : Fin 4, (slotPts c j fullShare f : sProp 𝕄) = (scrM.view.loc (c : Thread nD τ) ↦[slotSet j]{fullShare} f) := fun j => by
    unfold slotPts; rw [slotM_set]
  rw [bigSep_congr fun j _ => hs j]
  refine Eq.trans ?_ (pointsTo_biUnion (ℓ := scrM.view.loc (c : Thread nD τ)) Finset.univ slotSet (fun i _ j _ h => slotSet_disjoint h))
  have hu : (Finset.univ : Finset S4x16x3x1024.Idx) = Finset.univ.biUnion slotSet := by
    ext i
    simp only [Finset.mem_univ, Finset.mem_biUnion, true_and, true_iff]
    exact ⟨slotOf i, (mem_slotSet _ _).mpr rfl⟩
  exact congrArg (fun I : Finset S4x16x3x1024.Idx => (scrM.view.loc (c : Thread nD τ) ↦[I]{fullShare} f : sProp 𝕄)) hu

/-- A slot held whole is the three shares its three copies read through. -/
theorem slot_parts (c : Dev nD) (j : Fin 4) (f : (cc1_scratch0 : Ref sig .tc).ty.Contents (Elt F)) :
    (slotPts c j fullShare f : sProp 𝕄) ⊣⊢ iprop(slotPts c j (part 0) f ∗ slotPts c j (part 1) f ∗ slotPts c j (part 2) f) := by
  unfold slotPts part
  refine (pointsTo_share (PosShare.mem_left_op_right fullShare)).trans ?_
  exact ⟨sep_mono_right (pointsTo_share (PosShare.mem_left_op_right _)).1, sep_mono_right (pointsTo_share (PosShare.mem_left_op_right _)).2⟩

/-- The places other than `o`, as the three shifts of it. -/
theorem erase_place (o : Fin 4) : (Finset.univ.erase o : Finset (Fin 4)) = {o + 1, o + 2, o + 3} := by revert o; decide

end Cert.KernelIdeal.Exchange

end
-- ==== Proof.KernelIdeal.Talk.lean ====
/-
  The part of the second kernel that talks, once for all four places.

  The program takes one of four branches by the device's place `o` on the line. Every branch is the same program up to `o`, the
  other three places `a`, `b`, `e` in increasing order, and the devices `n₁ n₂ n₃` addressed: store the own block into slot `o`,
  copy the slot into slot `o` of each of the three devices, wait for the slots `a`, `b`, `e`, wait for the three copies to have
  been read. `talk` is that program, and `branch0` to `branch3` say that the four branches are it.
-/
module

public import proofs.«01_k».proof.Proof.KernelIdeal.Line
public import proofs.«01_k».proof.Proof.KernelIdeal.Protocol

@[expose] public section

noncomputable section

namespace Cert.KernelIdeal.Exchange

open Cert.KernelIdeal Cert.KernelIdeal.Gen
open Idealize.ShloMosaic Idealize.ShloMosaic.TcCoe
open Idealize.SL Idealize.SL.Sem

variable {F : FTy → Type} [FloatOps F]

/-- The rectangle of the whole block. -/
abbrev blkRect : Rect S16x3x1024 := Rect.unit (s := S16x3x1024) ![0, 0, 0] S16x3x1024.size inb_S16x3x1024_S16x3x1024_0_0_0

/-- The rectangle of the whole output block. -/
abbrev outRect : Rect S16x1x1024 := Rect.unit (s := S16x1x1024) ![0, 0, 0] S16x1x1024.size inb_S16x1x1024_S16x1x1024_0_0_0

/-- A program of the kernel. -/
abbrev KProg (F : FTy → Type) [FloatOps F] (α : Type) := Prog (TpuEff nD τ sig (Elt F) Λ₀ .tc) α

/-- Slot `o` copied into slot `o` of device `n`. -/
def sendOp {α : Type} (i : Fin 3) (o : Fin 4) (n : Dev nD) (k : KProg F α) : KProg F α :=
  .op (.enqueueDma (slotM o) (.remote (Dev.tc n : Thread nD τ) (slotM o) (.dma (sendS i))) (.dma (recvS o)) ((View.wordExact_bits rfl).reshape _ _)
    ((View.wordExact_bits rfl).reshape _ _) ⟨⟨rfl, Or.inl rfl⟩, trivial⟩) fun _ => k

/-- The wait for slot `j`, and the wait for the `i`-th copy of slot `o`. -/
def waitRecvOp {α : Type} (j : Fin 4) (k : KProg F α) : KProg F α :=
  .op (.waitDma2 (recvS j) (slotM j) (slotM j) ((View.wordExact_bits rfl).reshape _ _) ((View.wordExact_bits rfl).reshape _ _)) fun _ => k
def waitSendOp {α : Type} (i : Fin 3) (o : Fin 4) (k : KProg F α) : KProg F α :=
  .op (.waitDma2 (sendS i) (slotM o) (slotM o) ((View.wordExact_bits rfl).reshape _ _) ((View.wordExact_bits rfl).reshape _ _)) fun _ => k

/-- The own block `v` stored into slot `o`. -/
def storeOp {α : Type} (o : Fin 4) (v : Vec F S16x3x1024 .f32) (k : KProg F α) : KProg F α :=
  .op (.store scrM (slotRect o) (k1_pay2 v) Finset.univ (View.stores_vmem_bits_univ h_S1x16x3x1024 rfl) (.inl rfl)) fun _ => k

/-- The talking program, then `k`. -/
def talk {α : Type} (x : Memref sig .tc .vmem S16x3x1024 .f32) (o a b e : Fin 4) (n₁ n₂ n₃ : Dev nD) (k : KProg F α) : KProg F α :=
  .op (.load x blkRect.toLoadRect (View.loadsAt_vmem h_S16x3x1024)) fun v =>
  .op (.load scrM (slotRect o).toLoadRect (View.loadsAt_vmem h_S1x16x3x1024)) fun _ =>
  storeOp o v <|
  sendOp 0 o n₁ <| sendOp 1 o n₂ <| sendOp 2 o n₃ <|
  waitRecvOp a <| waitRecvOp b <| waitRecvOp e <|
  waitSendOp 0 o <| waitSendOp 1 o <| waitSendOp 2 o k

/-- The barrier handshake, then `k`: one unit to each of the three devices, and the wait for the three units. -/
def shake {α : Type} (n₁ n₂ n₃ : Dev nD) (k : KProg F α) : KProg F α :=
  .op (.semSignal (Dev.tc n₁ : Thread nD τ) barrier0 1) fun _ =>
  .op (.semSignal (Dev.tc n₂ : Thread nD τ) barrier0 1) fun _ =>
  .op (.semSignal (Dev.tc n₃ : Thread nD τ) barrier0 1) fun _ =>
  .op (.semWait barrier0 3) fun _ => k

/-- What is stored in the output from the four slots' blocks. -/
def combined (s₀ s₁ s₂ s₃ : Vec F S1x16x3x1024 .f32) : FVec F S16x1x1024 .f32 :=
  k1_pay1 (k1_pay7 s₁) (k1_pay8 s₂) (k1_pay9 s₃) (k1_pay12 s₂) (k1_pay13 s₃) (k1_pay14 s₀ s₁ s₂ s₃) (k1_pay16 s₀ s₁ s₂ s₃)
    (k1_pay17 s₀ s₁ s₂ s₃) (k1_pay18 s₀ s₁ s₂ s₃) (k1_pay19 s₁)

/-- The combination of the four slots into the output. -/
def finish (y : Memref sig .tc .vmem S16x1x1024 .f32) : KProg F PUnit :=
  .op (.load scrM (slotRect 0).toLoadRect (View.loadsAt_vmem h_S1x16x3x1024)) fun s₀ =>
  .op (.load scrM (slotRect 1).toLoadRect (View.loadsAt_vmem h_S1x16x3x1024)) fun s₁ =>
  .op (.load scrM (slotRect 2).toLoadRect (View.loadsAt_vmem h_S1x16x3x1024)) fun s₂ =>
  .op (.load scrM (slotRect 3).toLoadRect (View.loadsAt_vmem h_S1x16x3x1024)) fun s₃ =>
  .op (.load y outRect.toLoadRect (View.loadsAt_vmem h_S16x1x1024)) fun _ =>
  .op (.store y outRect (combined s₀ s₁ s₂ s₃) Finset.univ (View.stores_vmem_bits_univ h_S16x1x1024 rfl) (.inl rfl)) fun _ => .ret ⟨⟩

section Branches

variable (x : Memref sig .tc .vmem S16x3x1024 .f32) (hx : x.IsWhole) (y : Memref sig .tc .vmem S16x1x1024 .f32) (hy : y.IsWhole) (c : Dev nD)

/-- The kernel on device `c`, its device id read, as its four parts print it. -/
def onDevice : KProg F PUnit :=
  shake ⟨k1_dev1 c, k1_dev1_lt c⟩ ⟨k1_dev2 c, k1_dev2_lt c⟩ ⟨k1_dev3 c, k1_dev3_lt c⟩ <|
  if h : k1_cond1 c = 1#1 then
    talk x 0 1 2 3 ⟨k1_dev4 c, k1_dev4_lt c h⟩ ⟨k1_dev5 c, k1_dev5_lt c h⟩ ⟨k1_dev6 c, k1_dev6_lt c h⟩ (finish y)
  else if h : k1_cond2 c = 1#1 then
    talk x 1 0 2 3 ⟨k1_dev7 c, k1_dev7_lt c h⟩ ⟨k1_dev8 c, k1_dev8_lt c h⟩ ⟨k1_dev9 c, k1_dev9_lt c h⟩ (finish y)
  else if h : k1_cond3 c = 1#1 then
    talk x 2 0 1 3 ⟨k1_dev10 c, k1_dev10_lt c h⟩ ⟨k1_dev11 c, k1_dev11_lt c h⟩ ⟨k1_dev12 c, k1_dev12_lt c h⟩ (finish y)
  else if h : k1_cond4 c = 1#1 then
    talk x 3 0 1 2 ⟨k1_dev13 c, k1_dev13_lt c h⟩ ⟨k1_dev14 c, k1_dev14_lt c h⟩ ⟨k1_dev15 c, k1_dev15_lt c h⟩ (finish y)
  else finish y

/-- At most one of the four conditions holds, and one does. -/
theorem conds : (k1_cond1 c = 1#1 ∧ ¬ k1_cond2 c = 1#1 ∧ ¬ k1_cond3 c = 1#1 ∧ ¬ k1_cond4 c = 1#1)
    ∨ (¬ k1_cond1 c = 1#1 ∧ k1_cond2 c = 1#1 ∧ ¬ k1_cond3 c = 1#1 ∧ ¬ k1_cond4 c = 1#1)
    ∨ (¬ k1_cond1 c = 1#1 ∧ ¬ k1_cond2 c = 1#1 ∧ k1_cond3 c = 1#1 ∧ ¬ k1_cond4 c = 1#1)
    ∨ (¬ k1_cond1 c = 1#1 ∧ ¬ k1_cond2 c = 1#1 ∧ ¬ k1_cond3 c = 1#1 ∧ k1_cond4 c = 1#1) := by
  rw [cond1_iff, cond2_iff, cond3_iff, cond4_iff]
  generalize place c = p
  revert p; decide

set_option maxRecDepth 65536 in
theorem body_eq : cc1__combine_body (F := F) x hx y hy scrM (Memref.isWhole_whole _) cc1_scratch1 cc1_scratch2
    = .op .deviceId fun c => onDevice x y c := by
  rw [cc1__combine_body_eq_skeleton]
  unfold cc1__combine_body_skel
  rw [k1_part17_eq_skeleton, k1_part18_eq_skeleton, k1_part19_eq_skeleton]
  unfold k1_part17_skel k1_part18_skel k1_part19_skel onDevice
  simp only [semSignalWord, semWaitWord, Prog.lift, Prog.bind_op, Prog.bind_ret, Prog.pure_eq_ret]
  refine congrArg (Prog.op TpuEff.deviceId) (funext fun c => ?_)
  rcases conds c with ⟨h₁, h₂, h₃, h₄⟩ | ⟨h₁, h₂, h₃, h₄⟩ | ⟨h₁, h₂, h₃, h₄⟩ | ⟨h₁, h₂, h₃, h₄⟩
  · simp only [dif_pos h₁, dif_neg h₂, dif_neg h₃, dif_neg h₄]
    rw [k1_part1_eq_skeleton, k1_part2_eq_skeleton, k1_part3_eq_skeleton, k1_part4_eq_skeleton]
    rfl
  · simp only [dif_neg h₁, dif_pos h₂, dif_neg h₃, dif_neg h₄]
    rw [k1_part5_eq_skeleton, k1_part6_eq_skeleton, k1_part7_eq_skeleton, k1_part8_eq_skeleton]
    rfl
  · simp only [dif_neg h₁, dif_neg h₂, dif_pos h₃, dif_neg h₄]
    rw [k1_part9_eq_skeleton, k1_part10_eq_skeleton, k1_part11_eq_skeleton, k1_part12_eq_skeleton]
    rfl
  · simp only [dif_neg h₁, dif_neg h₂, dif_neg h₃, dif_pos h₄]
    rw [k1_part13_eq_skeleton, k1_part14_eq_skeleton, k1_part15_eq_skeleton, k1_part16_eq_skeleton]
    rfl

end Branches

end Cert.KernelIdeal.Exchange

end
-- ==== Proof.KernelIdeal.Branch.lean ====
/-
  The talking part of the second kernel, run on one device: from the own slot, the three addressed slots and the right to copy onto
  them, to the four slots of the own buffer, each holding the block of the device at its place.
-/
module

public import proofs.«01_k».proof.Proof.KernelIdeal.Talk
public import Idealize.ShloMosaic.Lib.Pipeline.Value

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → (⟨S16x3x1024, .f32⟩ : BufTy).Contents (Elt F))

/-! ## What every device knows -/

/-- The invariants of every cell, and that every barrier cell is at its round 0. -/
def known (K : GSem nD τ sig → ℕ) : sProp 𝕄 :=
  iprop((bigSep Finset.univ fun d : Dev nD => cellInv ER (xRd P) (K (barCell d)) (barCell d))
    ∗ (bigSep Finset.univ fun p : Dev nD × Fin 3 => cellInv ER (xRd P) (K (sendCell p.1 p.2)) (sendCell p.1 p.2))
    ∗ (bigSep Finset.univ fun p : Dev nD × Fin 4 => cellInv ER (xRd P) (K (recvCell p.1 p.2)) (recvCell p.1 p.2))
    ∗ bigSep Finset.univ fun d : Dev nD => reached ER (barCell d) 0)

instance known_persistent (K : GSem nD τ sig → ℕ) : BI.Persistent (known P K) := by unfold known; infer_instance

variable (K : GSem nD τ sig → ℕ)

theorem known_bar (d : Dev nD) : known P K ⊢ cellInv ER (xRd P) (K (barCell d)) (barCell d) :=
  sep_elim_left.trans (bigSep_elim (Φ := fun d : Dev nD => cellInv ER (xRd P) (K (barCell d)) (barCell d)) (Finset.mem_univ d))
theorem known_send (d : Dev nD) (i : Fin 3) : known P K ⊢ cellInv ER (xRd P) (K (sendCell d i)) (sendCell d i) :=
  (sep_elim_right.trans sep_elim_left).trans
    (bigSep_elim (Φ := fun p : Dev nD × Fin 3 => cellInv ER (xRd P) (K (sendCell p.1 p.2)) (sendCell p.1 p.2)) (Finset.mem_univ (d, i)))
theorem known_recv (d : Dev nD) (j : Fin 4) : known P K ⊢ cellInv ER (xRd P) (K (recvCell d j)) (recvCell d j) :=
  ((sep_elim_right.trans sep_elim_right).trans sep_elim_left).trans
    (bigSep_elim (Φ := fun p : Dev nD × Fin 4 => cellInv ER (xRd P) (K (recvCell p.1 p.2)) (recvCell p.1 p.2)) (Finset.mem_univ (d, j)))
theorem known_reached (d : Dev nD) : known P K ⊢ reached ER (barCell d) 0 :=
  ((sep_elim_right.trans sep_elim_right).trans sep_elim_right).trans
    (bigSep_elim (Φ := fun d : Dev nD => (reached ER (barCell d) 0 : sProp 𝕄)) (Finset.mem_univ d))

/-! ## One copy, one wait -/

section Steps

variable (c : Dev nD) (W : Waits sig Unit)

/-- A slot held, its contents written differently. -/
theorem slotPts_congr (d : Dev nD) (j : Fin 4) (q : PosShare TreeShare) {f g : (cc1_scratch0 : Ref sig .tc).ty.Contents (Elt F)}
    (h : ∀ i ∈ (slotM j).view.set, f i = g i) : (slotPts d j q f : sProp 𝕄) = slotPts d j q g := pointsTo_congr h

/-- The copy to the device `k` places further. -/
theorem send_step {k : Fin 4} (hk : k ≠ 0) {n : Dev nD} (hn : n = shift k c) (i : Fin 3) {o : Fin 4} (ho : o = place c)
    (O : CellTallies nD τ sig Unit) (O' : CellTallies nD τ sig Unit) (hO : O' = O + dueRecv k c)
    (fd : (cc1_scratch0 : Ref sig .tc).ty.Contents (Elt F)) (T : KProg F PUnit) (Q : PUnit → sProp 𝕄) :
    iprop(known P K ∗ slotPts c o (part i) (gathered P c) ∗ slotPts (shift k c) o fullShare fd ∗ owes (c : Thread nD τ) O' W
        ∗ dutyTok ER (sendCell c i) 0 0 ∗ reached ER (sendCell c i) 0
        ∗ dutyTok ER (recvCell (shift k c) (place c)) 0 0 ∗ reached ER (recvCell (shift k c) (place c)) 0)
      ⊢ iprop(((cred (tallyAt (sendCell c i) () N) ∗ owes (c : Thread nD τ) O W) -∗ wp frame (wpE (defs₀ (F := F)) 𝒱₀ c none) Set.univ T Q)
        -∗ wp frame (wpE (defs₀ (F := F)) 𝒱₀ c none) Set.univ (sendOp i o n T) Q) := by
  subst hn ho
  have hne : place c ≠ place (shift k c) := by
    rw [place_shift]; intro h; exact hk (by simpa using h.symm)
  unfold sendOp
  iintro ⟨#HK, Hs, Hd, HO, Ht, Hr, Ht', Hr'⟩ Hk
  iapply (Rounds.wp_send_pointsTo 𝒱₀ ER (xRd P) (c : Thread nD τ) none (c' := (shift k c : Thread nD τ)) (src := slotM (place c)) (dst := slotM (place c))
      (sS := .dma (sendS i)) (sem := .dma (recvS (place c))) (q := part i) (fs := gathered P c) (κ₁ := K (sendCell c i))
      (κ₂ := K (recvCell (shift k c) (place c))) (r₁ := 0) (r₂ := 0) (d₁ := 0) (d₂ := 0) (fd := fd)
      (by rw [duties_send]; exact Finset.mem_singleton_self _) (by rw [duties_recv P _ hne]; exact Finset.mem_singleton_self _)
      () () N rfl (amount_send P c i 0) (amount_recv P (shift k c) (place c) 0) O hO (W := W)
      (by rw [payload_send])
      (by rw [payload_recv, gathered_shift]; exact Entails.of_eq (slotPts_congr _ _ _ (write_read_slot (place c) fd (gathered P c))))) $$ [Hs Hd HO Ht Hr Ht' Hr']
  · isplitr; · iapply (known_send P K c i); iexact HK
    isplitr; · iapply (known_recv P K (shift k c) (place c)); iexact HK
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iexact Hk

/-- The wait for slot `j`. -/
theorem recv_step {j : Fin 4} (hj : j ≠ place c) (T : KProg F PUnit) (Q : PUnit → sProp 𝕄) :
    iprop(known P K ∗ cred (tallyAt (recvCell c j) () N) ∗ owes (c : Thread nD τ) 0 W ∗ atPos ER (recvCell c j) 0 ∅ 0)
      ⊢ iprop(((∃ W', owes (c : Thread nD τ) 0 W') ∗ atPos ER (recvCell c j) (0 + 1) ∅ 0 ∗ slotPts c j fullShare (gathered P c)
          -∗ wp frame (wpE (defs₀ (F := F)) 𝒱₀ c none) Set.univ T Q)
        -∗ wp frame (wpE (defs₀ (F := F)) 𝒱₀ c none) Set.univ (waitRecvOp j T) Q) := by
  unfold waitRecvOp
  iintro ⟨#HK, Hc, HO, Ha⟩ Hk
  iapply (Rounds.wp_wait_rest_token 𝒱₀ ER (xRd P) (c : Thread nD τ) none (κ := K (recvCell c j))
      (wpE_waitDma2_eq (src := slotM j) (dst := slotM j) 𝒱₀ (c : Thread nD τ) none Set.univ) (Set.mem_univ _) () (O := 0) (W := W) (R := 0) (m := 0) (T := ∅)
      ((Nat.zero_add _).trans (expect_recv P c hj).symm)) $$ [Hc HO Ha]
  · isplitr; · iapply (known_recv P K c j); iexact HK
    isplitl [Hc]; · iexact Hc
    isplitl [HO]; · iexact HO
    isplitr; · rw [MayWait_zero]; iempintro
    iexact Ha
  iintro ⟨HO, Ha, -, Hp⟩
  ihave Hp := (Entails.of_eq (rest_recv P c hj)) $$ Hp
  iapply Hk
  isplitl [HO]; · iexists _; iexact HO
  isplitl [Ha]; · iexact Ha
  iexact Hp

/-- The wait for the `i`-th copy to have been read. -/
theorem sent_step (i : Fin 3) {o : Fin 4} (ho : o = place c) (T : KProg F PUnit) (Q : PUnit → sProp 𝕄) :
    iprop(known P K ∗ cred (tallyAt (sendCell c i) () N) ∗ owes (c : Thread nD τ) 0 W ∗ atPos ER (sendCell c i) 0 ∅ 0)
      ⊢ iprop(((∃ W', owes (c : Thread nD τ) 0 W') ∗ atPos ER (sendCell c i) (0 + 1) ∅ 0 ∗ slotPts c (place c) (part i) (gathered P c)
          -∗ wp frame (wpE (defs₀ (F := F)) 𝒱₀ c none) Set.univ T Q)
        -∗ wp frame (wpE (defs₀ (F := F)) 𝒱₀ c none) Set.univ (waitSendOp i o T) Q) := by
  subst ho
  unfold waitSendOp
  iintro ⟨#HK, Hc, HO, Ha⟩ Hk
  iapply (Rounds.wp_wait_rest_token 𝒱₀ ER (xRd P) (c : Thread nD τ) none (κ := K (sendCell c i))
      (wpE_waitDma2_eq (src := slotM (place c)) (dst := slotM (place c)) 𝒱₀ (c : Thread nD τ) none Set.univ) (Set.mem_univ _) () (O := 0) (W := W) (R := 0) (m := 0) (T := ∅)
      ((Nat.zero_add _).trans (expect_send P c i).symm)) $$ [Hc HO Ha]
  · isplitr; · iapply (known_send P K c i); iexact HK
    isplitl [Hc]; · iexact Hc
    isplitl [HO]; · iexact HO
    isplitr; · rw [MayWait_zero]; iempintro
    iexact Ha
  iintro ⟨HO, Ha, -, Hp⟩
  ihave Hp := (Entails.of_eq (rest_send P c i)) $$ Hp
  iapply Hk
  isplitl [HO]; · iexists _; iexact HO
  isplitl [Ha]; · iexact Ha
  iexact Hp

end Steps

/-! ## The own block stored -/

/-- The own block stored in the own slot is, there, the gathered buffer. -/
theorem stored_slot (c : Dev nD) (f : (cc1_scratch0 : Ref sig .tc).ty.Contents (Elt F)) :
    ∀ i ∈ (slotM (place c)).view.set,
      ((scrM : Memref sig .tc .vmem S4x16x3x1024 .f32).access (slotRect (place c)) : View sig .tc _ _ _).write (Elt F) f (k1_pay2 (P c)) Finset.univ i
        = gathered P c i := by
  intro i hi
  rw [slotM_set, ← access_set] at hi
  obtain ⟨(z : S1x16x3x1024.Idx), -, rfl⟩ := Finset.mem_map.mp hi
  rw [View.write_emb_of_mem _ _ (Finset.mem_univ _)]
  let w : S16x3x1024.Idx := fun b => z b.succ
  have hz : ((scrM : Memref sig .tc .vmem S4x16x3x1024 .f32).access (slotRect (place c)) : View sig .tc _ _ _).emb z
      = (Fin.cons (place c) w : S4x16x3x1024.Idx) := (slot_emb (place c)).eq_cons z
  rw [hz]
  unfold gathered
  have hs : slotOf (Fin.cons (place c) w : S4x16x3x1024.Idx) = place c := rfl
  rw [hs, atPlace_place]
  unfold k1_pay2
  rw [cast_eq, shapeCast_self]
  exact shapeCast_addUnit_apply ![16, 3, 1024] (P c) _ z

/-! ## The talking part, run -/

section Run

variable (c : Dev nD) (W : Waits sig Unit)

/-- The staging buffer the block is read from. -/
abbrev inM : Memref sig .tc .vmem S16x3x1024 .f32 := Memref.whole cc1_stg0_0

/-- Before: what goes with the `k`-th copy, by the device it addresses, -/
def addressed (k : Fin 4) : sProp 𝕄 :=
  iprop((∃ f, slotPts (shift k c) (place c) fullShare f) ∗ dutyTok ER (recvCell (shift k c) (place c)) 0 0
    ∗ reached ER (recvCell (shift k c) (place c)) 0)
/-- by the own send cell, -/
def sending (i : Fin 3) : sProp 𝕄 :=
  iprop(atPos ER (sendCell c i) 0 ∅ 0 ∗ reached ER (sendCell c i) 0 ∗ dutyTok ER (sendCell c i) 0 0)
/-- and what waits for slot `j`. -/
def awaiting (j : Fin 4) : sProp 𝕄 :=
  iprop(atPos ER (recvCell c j) 0 ∅ 0 ∗ cred (tallyAt (recvCell c j) () N))
/-- After: slot `j` come, its cell past its round. -/
def arrived (j : Fin 4) : sProp 𝕄 :=
  iprop(atPos ER (recvCell c j) (0 + 1) ∅ 0 ∗ slotPts c j fullShare (gathered P c))

set_option maxHeartbeats 1600000 in
theorem talk_run {o a b e : Fin 4} (ho : o = place c) (ha : a ≠ place c) (hb : b ≠ place c) (he : e ≠ place c)
    {n₁ n₂ n₃ : Dev nD} (hn₁ : n₁ = shift 1 c) (hn₂ : n₂ = shift 2 c) (hn₃ : n₃ = shift 3 c)
    (T : KProg F PUnit) (Q : PUnit → sProp 𝕄) :
    iprop(known P K ∗ (∃ f, slotPts c (place c) fullShare f) ∗ owes (c : Thread nD τ) (O₁ c) W
        ∗ (inM.view.loc (c : Thread nD τ) ↦{fullShare} P c)
        ∗ addressed c 1 ∗ addressed c 2 ∗ addressed c 3
        ∗ sending c 0 ∗ sending c 1 ∗ sending c 2
        ∗ awaiting c a ∗ awaiting c b ∗ awaiting c e)
      ⊢ iprop(((∃ W', owes (c : Thread nD τ) 0 W') ∗ (inM.view.loc (c : Thread nD τ) ↦{fullShare} P c)
          ∗ slotPts c (place c) fullShare (gathered P c)
          ∗ atPos ER (sendCell c 0) (0 + 1) ∅ 0 ∗ atPos ER (sendCell c 1) (0 + 1) ∅ 0 ∗ atPos ER (sendCell c 2) (0 + 1) ∅ 0
          ∗ arrived P c a ∗ arrived P c b ∗ arrived P c e
          -∗ wp frame (wpE (defs₀ (F := F)) 𝒱₀ c none) Set.univ T Q)
        -∗ wp frame (wpE (defs₀ (F := F)) 𝒱₀ c none) Set.univ (talk inM o a b e n₁ n₂ n₃ T) Q) := by
  subst ho
  unfold talk addressed sending awaiting arrived
  iintro ⟨#HK, ⟨%f, Hs⟩, HO, Hx, ⟨⟨%f₁, Hd₁⟩, Ht₁, Hr₁⟩, ⟨⟨%f₂, Hd₂⟩, Ht₂, Hr₂⟩, ⟨⟨%f₃, Hd₃⟩, Ht₃, Hr₃⟩,
    ⟨HaS₀, HrS₀, HtS₀⟩, ⟨HaS₁, HrS₁, HtS₁⟩, ⟨HaS₂, HrS₂, HtS₂⟩, ⟨HaA, HcA⟩, ⟨HaB, HcB⟩, ⟨HaE, HcE⟩⟩ Hk
  -- the own block read, and stored in the own slot
  iapply (wp_load 𝒱₀ (c : Thread nD τ) none Set.univ (m := inM) (Finset.subset_univ _)) $$ Hx
  iintro Hx
  have hread : inM.view.readAt (Elt F) blkRect.toLoadRect (P c) = P c :=
    Memref.readAt_unit_zero (Elt F) cc1_stg0_0 (by funext i; fin_cases i <;> rfl) inb_S16x3x1024_S16x3x1024_0_0_0 (P c)
  rw [hread]
  have hS : ((scrM : Memref sig .tc .vmem S4x16x3x1024 .f32).access (slotRect (place c)) : View sig .tc _ _ _).set ⊆ (slotM (place c)).view.set := by
    rw [access_set, slotM_set]
  iapply (wp_load_rect 𝒱₀ (c : Thread nD τ) none Set.univ (m := scrM) (r := slotRect (place c)) (S := (slotM (place c)).view.set) hS) $$ Hs
  iintro Hs
  unfold storeOp
  iapply (wp_store 𝒱₀ (c : Thread nD τ) none Set.univ (m := scrM) (r := slotRect (place c)) (Mk := Finset.univ) (S := (slotM (place c)).view.set) hS) $$ Hs
  iintro Hs
  ihave Hs := (Entails.of_eq (slotPts_congr c (place c) fullShare (stored_slot P c f))) $$ Hs
  ihave Hs := (slot_parts c (place c) (gathered P c)).1 $$ Hs
  icases Hs with ⟨Hs₀, Hs₁, Hs₂⟩
  -- the three copies
  iapply (send_step P K c W (k := 1) (by decide) hn₁ 0 rfl (dueRecv 3 c + dueRecv 2 c) (O₁ c) rfl f₁) $$ [Hs₀ Hd₁ HO HtS₀ HrS₀ Ht₁ Hr₁]
  · isplitr; · iexact HK
    isplitl [Hs₀]; · iexact Hs₀
    isplitl [Hd₁]; · iexact Hd₁
    isplitl [HO]; · iexact HO
    isplitl [HtS₀]; · iexact HtS₀
    isplitl [HrS₀]; · iexact HrS₀
    isplitl [Ht₁]; · iexact Ht₁
    iexact Hr₁
  iintro ⟨HcS₀, HO⟩
  iapply (send_step P K c W (k := 2) (by decide) hn₂ 1 rfl (dueRecv 3 c) (dueRecv 3 c + dueRecv 2 c) rfl f₂) $$ [Hs₁ Hd₂ HO HtS₁ HrS₁ Ht₂ Hr₂]
  · isplitr; · iexact HK
    isplitl [Hs₁]; · iexact Hs₁
    isplitl [Hd₂]; · iexact Hd₂
    isplitl [HO]; · iexact HO
    isplitl [HtS₁]; · iexact HtS₁
    isplitl [HrS₁]; · iexact HrS₁
    isplitl [Ht₂]; · iexact Ht₂
    iexact Hr₂
  iintro ⟨HcS₁, HO⟩
  iapply (send_step P K c W (k := 3) (by decide) hn₃ 2 rfl 0 (dueRecv 3 c) (zero_add _).symm f₃) $$ [Hs₂ Hd₃ HO HtS₂ HrS₂ Ht₃ Hr₃]
  · isplitr; · iexact HK
    isplitl [Hs₂]; · iexact Hs₂
    isplitl [Hd₃]; · iexact Hd₃
    isplitl [HO]; · iexact HO
    isplitl [HtS₂]; · iexact HtS₂
    isplitl [HrS₂]; · iexact HrS₂
    isplitl [Ht₃]; · iexact Ht₃
    iexact Hr₃
  iintro ⟨HcS₂, HO⟩
  -- the three slots that come
  iapply (recv_step P K c W ha) $$ [HcA HO HaA]
  · isplitr; · iexact HK
    isplitl [HcA]; · iexact HcA
    isplitl [HO]; · iexact HO
    iexact HaA
  iintro ⟨⟨%W₁, HO⟩, HaA, HpA⟩
  iapply (recv_step P K c W₁ hb) $$ [HcB HO HaB]
  · isplitr; · iexact HK
    isplitl [HcB]; · iexact HcB
    isplitl [HO]; · iexact HO
    iexact HaB
  iintro ⟨⟨%W₂, HO⟩, HaB, HpB⟩
  iapply (recv_step P K c W₂ he) $$ [HcE HO HaE]
  · isplitr; · iexact HK
    isplitl [HcE]; · iexact HcE
    isplitl [HO]; · iexact HO
    iexact HaE
  iintro ⟨⟨%W₃, HO⟩, HaE, HpE⟩
  -- the three copies read
  iapply (sent_step P K c W₃ 0 rfl) $$ [HcS₀ HO HaS₀]
  · isplitr; · iexact HK
    isplitl [HcS₀]; · iexact HcS₀
    isplitl [HO]; · iexact HO
    iexact HaS₀
  iintro ⟨⟨%W₄, HO⟩, HaS₀, Hs₀⟩
  iapply (sent_step P K c W₄ 1 rfl) $$ [HcS₁ HO HaS₁]
  · isplitr; · iexact HK
    isplitl [HcS₁]; · iexact HcS₁
    isplitl [HO]; · iexact HO
    iexact HaS₁
  iintro ⟨⟨%W₅, HO⟩, HaS₁, Hs₁⟩
  iapply (sent_step P K c W₅ 2 rfl) $$ [HcS₂ HO HaS₂]
  · isplitr; · iexact HK
    isplitl [HcS₂]; · iexact HcS₂
    isplitl [HO]; · iexact HO
    iexact HaS₂
  iintro ⟨⟨%W₆, HO⟩, HaS₂, Hs₂⟩
  iapply Hk
  isplitl [HO]; · iexists W₆; iexact HO
  isplitl [Hx]; · iexact Hx
  isplitl [Hs₀ Hs₁ Hs₂]
  · iapply (slot_parts c (place c) (gathered P c)).2
    isplitl [Hs₀]; · iexact Hs₀
    isplitl [Hs₁]; · iexact Hs₁
    iexact Hs₂
  isplitl [HaS₀]; · iexact HaS₀
  isplitl [HaS₁]; · iexact HaS₁
  isplitl [HaS₂]; · iexact HaS₂
  isplitl [HaA HpA]
  · isplitl [HaA]; · iexact HaA
    iexact HpA
  isplitl [HaB HpB]
  · isplitl [HaB]; · iexact HaB
    iexact HpB
  isplitl [HaE]; · iexact HaE
  iexact HpE

end Run

end Cert.KernelIdeal.Exchange

end
-- ==== Proof.KernelIdeal.Body0.lean ====
/-
  The first kernel's body, run at one point of its grid: it loads the query row, the key block and the value block of one batch
  index and stores the three packed rows, numerator, maximum and denominator, of that batch index. The run is stated over any whole
  staging buffers, so that it serves both buffers of every window.
-/
module

public import proofs.«01_k».proof.Proof.KernelIdeal.Branch
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Value
public import Idealize.ShloMosaic.Lib.Tactic

@[expose] public section

noncomputable section

namespace Cert.KernelIdeal.Partial

open Cert.KernelIdeal Cert.KernelIdeal.Gen Cert.KernelIdeal.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

/-- The packed rows of one batch index, from its query row, key block and value block. -/
def rows (q : Vec F S1x1x16x64 .f32) (k v : Vec F S1x1024x1024 .f32) : Vec F S1x3x1024 .f32 :=
  k0_pay1 (k0_pay2 v) k0_pay3 (k0_pay4 q k)

theorem zero3 : (![0, 0, 0] : Fin 3 → ℕ) = fun _ => 0 := by funext i; fin_cases i <;> rfl
theorem zero4 : (![0, 0, 0, 0] : Fin 4 → ℕ) = fun _ => 0 := by funext i; fin_cases i <;> rfl

/-- After a store over a whole shape, the view reads what was stored. -/
theorem read_stored {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ fun y => ⟨_, List.mem_singleton_self _, View.mem_set_unit_zero h inb y⟩, View.canon_unit_zero h]

/-- The body on whole staging buffers: the inputs keep what they hold, the output ends at `rows` of it. -/
theorem rows_run (c : Dev nD) (i : grid0.Coords) (a : Memref sig .tc .vmem S1x1x16x64 .f32) (ha : a.IsWhole)
    (b : Memref sig .tc .vmem S1x1024x1024 .f32) (hb : b.IsWhole) (d : Memref sig .tc .vmem S1x1024x1024 .f32) (hd : d.IsWhole)
    (o : Memref sig .tc .vmem S1x3x1024 .f32) (ho : o.IsWhole)
    (q : Vec F S1x1x16x64 .f32) (k v : Vec F S1x1024x1024 .f32) (z : Vec F S1x3x1024 .f32) (Q : PUnit → sProp 𝕄) :
    iprop(owns (c : Thread nD τ) a fullShare q ∗ owns (c : Thread nD τ) b fullShare k ∗ owns (c : Thread nD τ) d fullShare v
        ∗ owns (c : Thread nD τ) o fullShare z
        ∗ (iprop(owns (c : Thread nD τ) a fullShare q ∗ owns (c : Thread nD τ) b fullShare k ∗ owns (c : Thread nD τ) d fullShare v
            ∗ owns (c : Thread nD τ) o fullShare (rows q k v)) -∗ Q ⟨⟩))
      ⊢ wp frame (wpE (defs₀ (F := F)) 𝒱₀ c none) Set.univ (cc0__attn_body i a ha b hb d hd o ho) Q := by
  simp only [cc0__attn_body_eq_skeleton]; unfold cc0__attn_body_skel
  simp only [k0_part1_eq_skeleton]; unfold k0_part1_skel
  unfold owns
  iintro ⟨⟨%f0, %hf0, H0⟩, ⟨%f1, %hf1, H1⟩, ⟨%f2, %hf2, H2⟩, ⟨%f3, -, H3⟩, Hk⟩
  obtain rfl := ha.eq_unread hf0; obtain rfl := hb.eq_unread hf1; obtain rfl := hd.eq_unread hf2
  sl_exec
  sl_step
  iapply Hk
  isplitl [H0]
  · iexists _; isplitr; · ipureintro; exact ha.read_unread _
    iexact H0
  isplitl [H1]
  · iexists _; isplitr; · ipureintro; exact hb.read_unread _
    iexact H1
  isplitl [H2]
  · iexists _; isplitr; · ipureintro; exact hd.read_unread _
    iexact H2
  iexists _; isplitr; swap; · iexact H3
  ipureintro
  refine (read_stored (S := S1x3x1024) _ _ zero3 inb_S1x3x1024_S1x3x1024_0_0_0 _).trans ?_
  have hq := View.ld_unit_zero (S := S1x1x16x64) zero4 inb_S1x1x16x64_S1x1x16x64_0_0_0_0 q
  have hk := View.ld_unit_zero (S := S1x1024x1024) zero3 inb_S1x1024x1024_S1x1024x1024_0_0_0 k
  have hv := View.ld_unit_zero (S := S1x1024x1024) zero3 inb_S1x1024x1024_S1x1024x1024_0_0_0 v
  unfold rows
  conv_rhs => rw [← hq, ← hk, ← hv]
  simp only [View.readAt_eq_ld, ha.read_unread, hb.read_unread, hd.read_unread]

/-! ## The region's data -/

variable (V : Dev nD → Valuation τ sig (Elt F))

/-- Batch index `t`'s block of the query, of the keys and of the values, in the arrays as the region finds them. -/
def qBlk (c : Dev nD) (t : Fin cfg0.N) : Vec F S1x1x16x64 .f32 := (win0_0.blk t).view.read (Elt F) (V c main_arg0)
def kBlk (c : Dev nD) (t : Fin cfg0.N) : Vec F S1x1024x1024 .f32 := (win0_1.blk t).view.read (Elt F) (V c main_v1)
def vBlk (c : Dev nD) (t : Fin cfg0.N) : Vec F S1x1024x1024 .f32 := (win0_2.blk t).view.read (Elt F) (V c main_v2)

/-- The first region: the inputs stay, every point leaves the rows of its batch index; `Owe` is what the device owes throughout. -/
def dat (Owe : CellTallies nD τ sig Unit) (c : Dev nD) : Dat τ (Elt F) Unit ℕ UU ℕ cfg0 c where
  A | 0 => V c main_arg0 | 1 => V c main_v1 | 2 => V c main_v2 | 3 => V c main_v3
  after | 0 => qBlk V c | 1 => kBlk V c | 2 => vBlk V c | 3 => fun t => rows (qBlk V c t) (kBlk V c t) (vBlk V c t)
  Φ _ := iprop(Pipeline.scopedRest spec0 c ∗ ∃ r, prngReg c r)
  q _ := fullShare
  owed _ := Owe

variable (Owe : CellTallies nD τ sig Unit)

theorem body (c : Dev nD) : BodyObligation (dat V Owe c) (defs₀ (F := F)) 𝒱₀ () Set.univ := fun t => by
  rw [bigSep_W0, bigSep_W0]
  show iprop((dat V Owe c).Φ t.castSucc ∗ (dat V Owe c).owesAt () t.castSucc
      ∗ ((∃ d, owns (c : Thread nD τ) (st0_0 t) fullShare ((dat V Owe c).before 0 t d))
        ∗ (∃ d, owns (c : Thread nD τ) (st0_1 t) fullShare ((dat V Owe c).before 1 t d))
        ∗ (∃ d, owns (c : Thread nD τ) (st0_2 t) fullShare ((dat V Owe c).before 2 t d))
        ∗ (∃ d, owns (c : Thread nD τ) (st0_3 t) fullShare ((dat V Owe c).before 3 t d))))
    ⊢ wp frame (wpE (defs₀ (F := F)) 𝒱₀ c none) Set.univ (bodyAt0 t) fun _ =>
      iprop((dat V Owe c).Φ t.castSucc ∗ (dat V Owe c).owesAt () t.castSucc
        ∗ (owns (c : Thread nD τ) (st0_0 t) fullShare (qBlk V c t) ∗ owns (c : Thread nD τ) (st0_1 t) fullShare (kBlk V c t)
          ∗ owns (c : Thread nD τ) (st0_2 t) fullShare (vBlk V c t)
          ∗ owns (c : Thread nD τ) (st0_3 t) fullShare (rows (qBlk V c t) (kBlk V c t) (vBlk V c t))))
  have b0 : ∀ d, (dat V Owe c).before 0 t d = qBlk V c t := fun d => by unfold Dat.before; rw [if_pos (fetch0_0 t)]; rfl
  have b1 : ∀ d, (dat V Owe c).before 1 t d = kBlk V c t := fun d => by unfold Dat.before; rw [if_pos (fetch0_1 t)]; rfl
  have b2 : ∀ d, (dat V Owe c).before 2 t d = vBlk V c t := fun d => by unfold Dat.before; rw [if_pos (fetch0_2 t)]; rfl
  simp only [b0, b1, b2]
  iintro ⟨HΦ, HO, ⟨%d0, H0⟩, ⟨%d1, H1⟩, ⟨%d2, H2⟩, ⟨%d3, H3⟩⟩
  iapply (rows_run c _ _ _ _ _ _ _ _ _ (qBlk V c t) (kBlk V c t) (vBlk V c t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-- What the region leaves in the array of packed rows. -/
def packed (c : Dev nD) : (main_v3 : Ref sig .tc).ty.Contents (Elt F) := (dat V 0 c).arrAt 3 cfg0.N

end Cert.KernelIdeal.Partial

end
-- ==== Proof.KernelIdeal.Body1.lean ====
/-
  The second kernel's body, run on one device: the barrier handshake, the exchange of the four blocks, the combination. It starts
  with the cells open at their round 0 and what the launch dealt, and ends with every one of the device's counters back at zero,
  nothing owed, and the output block at `outv P c`, a function of the blocks of the four devices of the line.
-/
module

public import proofs.«01_k».proof.Proof.KernelIdeal.Branch

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → (⟨S16x3x1024, .f32⟩ : BufTy).Contents (Elt F)) (K : GSem nD τ sig → ℕ)

/-! ## The output block -/

/-- What a load of slot `j` reads once the blocks have come. -/
def slotRead (c : Dev nD) (j : Fin 4) : Vec F S1x16x3x1024 .f32 := scrM.view.readAt (Elt F) (slotRect j).toLoadRect (gathered P c)

/-- The output block. -/
def outv (c : Dev nD) : (cc1_stg1_0 : Ref sig .tc).ty.Contents (Elt F) :=
  combined (slotRead P c 0) (slotRead P c 1) (slotRead P c 2) (slotRead P c 3)

/-- The staging buffer the output is written to. -/
abbrev outM : Memref sig .tc .vmem S16x1x1024 .f32 := Memref.whole cc1_stg1_0

theorem finish_run (c : Dev nD) (fy : (cc1_stg1_0 : Ref sig .tc).ty.Contents (Elt F)) (Q : PUnit → sProp 𝕄) :
    iprop((scrM.view.loc (c : Thread nD τ) ↦{fullShare} gathered P c) ∗ (outM.view.loc (c : Thread nD τ) ↦{fullShare} fy))
      ⊢ iprop(((scrM.view.loc (c : Thread nD τ) ↦{fullShare} gathered P c) ∗ (outM.view.loc (c : Thread nD τ) ↦{fullShare} outv P c)
          -∗ wp frame (wpE (defs₀ (F := F)) 𝒱₀ c none) Set.univ (.ret ⟨⟩ : KProg F PUnit) Q)
        -∗ wp frame (wpE (defs₀ (F := F)) 𝒱₀ c none) Set.univ (finish outM) Q) := by
  unfold finish
  iintro ⟨Hs, Hy⟩ Hk
  iapply (wp_load 𝒱₀ (c : Thread nD τ) none Set.univ (m := scrM) (Finset.subset_univ _)) $$ Hs
  iintro Hs
  iapply (wp_load 𝒱₀ (c : Thread nD τ) none Set.univ (m := scrM) (Finset.subset_univ _)) $$ Hs
  iintro Hs
  iapply (wp_load 𝒱₀ (c : Thread nD τ) none Set.univ (m := scrM) (Finset.subset_univ _)) $$ Hs
  iintro Hs
  iapply (wp_load 𝒱₀ (c : Thread nD τ) none Set.univ (m := scrM) (Finset.subset_univ _)) $$ Hs
  iintro Hs
  iapply (wp_load 𝒱₀ (c : Thread nD τ) none Set.univ (m := outM) (Finset.subset_univ _)) $$ Hy
  iintro Hy
  iapply (wp_store 𝒱₀ (c : Thread nD τ) none Set.univ (m := outM) (r := outRect) (Mk := Finset.univ) (Finset.subset_univ _)) $$ Hy
  iintro Hy
  have hw : ∀ w : (cc1_stg1_0 : Ref sig .tc).ty.Contents (Elt F),
      ((outM.access outRect : View sig .tc _ _ _).loc (c : Thread nD τ) ↦{fullShare} (outM.access outRect : View sig .tc _ _ _).write (Elt F) fy w Finset.univ : sProp 𝕄)
        ⊢ (outM.view.loc (c : Thread nD τ) ↦{fullShare} w) := fun w =>
    Entails.of_eq (congrArg (fun g => (outM.view.loc (c : Thread nD τ) ↦{fullShare} g : sProp 𝕄))
      (Memref.write_access_unit_zero_univ (Elt F) cc1_stg1_0 (by funext i; fin_cases i <;> rfl) inb_S16x1x1024_S16x1x1024_0_0_0 fy w))
  ihave Hy := (hw _) $$ Hy
  unfold outv slotRead
  iapply Hk
  isplitl [Hs]; · iexact Hs
  iexact Hy

/-! ## Four different places -/

/-- A conjunction over the four places, taken in any order. -/
theorem bigSep_four {o a b e : Fin 4} (h : [o, a, b, e].Nodup) (Φ : Fin 4 → sProp 𝕄) :
    bigSep Finset.univ Φ = iprop(Φ o ∗ Φ a ∗ Φ b ∗ Φ e) := by
  have hu : (Finset.univ : Finset (Fin 4)) = {o, a, b, e} := by revert o a b e; decide
  simp only [List.nodup_cons, List.mem_cons, List.not_mem_nil, or_false, not_or] at h
  obtain ⟨⟨h₁, h₂, h₃⟩, ⟨h₄, h₅⟩, h₆, -⟩ := h
  rw [hu, bigSep_insert (by simp [h₁, h₂, h₃]), bigSep_three h₄ h₅ h₆]; rfl
theorem bigSep_erase {o a b e : Fin 4} (h : [o, a, b, e].Nodup) (Φ : Fin 4 → sProp 𝕄) :
    bigSep (Finset.univ.erase o) Φ = iprop(Φ a ∗ Φ b ∗ Φ e) := by
  have hu : (Finset.univ.erase o : Finset (Fin 4)) = {a, b, e} := by revert o a b e; decide
  simp only [List.nodup_cons, List.mem_cons, List.not_mem_nil, or_false, not_or] at h
  obtain ⟨-, ⟨h₄, h₅⟩, h₆, -⟩ := h
  rw [hu, bigSep_three h₄ h₅ h₆]
theorem shifts_nodup : ∀ o : Fin 4, [o, o + 1, o + 2, o + 3].Nodup := by decide

/-! ## The exchange and the combination -/

section Run

variable (c : Dev nD) (W : Waits sig Unit)

/-- What the device is left with: its counters at zero, its buffers, nothing owed. -/
def bodyPost : sProp 𝕄 :=
  iprop(semVal (barCell c) 0 ∗ (semVal (sendCell c 0) 0 ∗ semVal (sendCell c 1) 0 ∗ semVal (sendCell c 2) 0)
    ∗ (bigSep Finset.univ fun j : Fin 4 => semVal (recvCell c j) 0)
    ∗ (∃ f, scrM.view.loc (c : Thread nD τ) ↦{fullShare} f)
    ∗ (inM.view.loc (c : Thread nD τ) ↦{fullShare} P c) ∗ (outM.view.loc (c : Thread nD τ) ↦{fullShare} outv P c)
    ∗ ∃ W, owes (c : Thread nD τ) (0 : CellTallies nD τ sig Unit) W)

/-- From the handshake done to the end, on whichever branch. -/
theorem exchange_run {o a b e : Fin 4} (ho : place c = o) (hnd : [o, a, b, e].Nodup)
    {n₁ n₂ n₃ : Dev nD} (hn₁ : n₁ = shift 1 c) (hn₂ : n₂ = shift 2 c) (hn₃ : n₃ = shift 3 c)
    (fy : (cc1_stg1_0 : Ref sig .tc).ty.Contents (Elt F)) (Q : PUnit → sProp 𝕄) :
    iprop(known P K ∗ atPos ER (barCell c) (0 + 1) ∅ 0
        ∗ (∃ f, slotPts c (place c) fullShare f) ∗ owes (c : Thread nD τ) (O₁ c) W
        ∗ (inM.view.loc (c : Thread nD τ) ↦{fullShare} P c) ∗ (outM.view.loc (c : Thread nD τ) ↦{fullShare} fy)
        ∗ addressed c 1 ∗ addressed c 2 ∗ addressed c 3
        ∗ sending c 0 ∗ sending c 1 ∗ sending c 2
        ∗ (bigSep Finset.univ fun j : Fin 4 => atPos ER (recvCell c j) 0 ∅ 0)
        ∗ (bigSep (Finset.univ.erase (place c)) fun j : Fin 4 => cred (tallyAt (recvCell c j) () N)))
      ⊢ iprop((bodyPost P c -∗ Q ⟨⟩)
        -∗ wp frame (wpE (defs₀ (F := F)) 𝒱₀ c none) Set.univ (talk inM o a b e n₁ n₂ n₃ (finish outM)) Q) := by
  subst ho
  have hne := hnd
  simp only [List.nodup_cons, List.mem_cons, List.not_mem_nil, or_false, not_or] at hne
  obtain ⟨⟨ha, hb, he⟩, -⟩ := hne
  rw [bigSep_four hnd, bigSep_erase hnd]
  iintro ⟨#HK, HaBar, Hs, HO, Hx, Hy, H₁, H₂, H₃, HS₀, HS₁, HS₂, ⟨HaO, HaA, HaB, HaE⟩, ⟨HcA, HcB, HcE⟩⟩ Hk
  iapply (talk_run P K c W rfl (Ne.symm ha) (Ne.symm hb) (Ne.symm he) hn₁ hn₂ hn₃) $$ [Hs HO Hx H₁ H₂ H₃ HS₀ HS₁ HS₂ HaA HaB HaE HcA HcB HcE]
  · isplitr; · iexact HK
    isplitl [Hs]; · iexact Hs
    isplitl [HO]; · iexact HO
    isplitl [Hx]; · iexact Hx
    isplitl [H₁]; · iexact H₁
    isplitl [H₂]; · iexact H₂
    isplitl [H₃]; · iexact H₃
    isplitl [HS₀]; · iexact HS₀
    isplitl [HS₁]; · iexact HS₁
    isplitl [HS₂]; · iexact HS₂
    unfold awaiting
    isplitl [HaA HcA]
    · isplitl [HaA]; · iexact HaA
      iexact HcA
    isplitl [HaB HcB]
    · isplitl [HaB]; · iexact HaB
      iexact HcB
    isplitl [HaE]; · iexact HaE
    iexact HcE
  unfold arrived
  iintro ⟨HO, Hx, HsO, HaS₀, HaS₁, HaS₂, ⟨HaA, HsA⟩, ⟨HaB, HsB⟩, ⟨HaE, HsE⟩⟩
  iapply (finish_run P c fy) $$ [HsO HsA HsB HsE Hy]
  · isplitl [HsO HsA HsB HsE]
    · rw [scratch_slots, bigSep_four hnd]
      isplitl [HsO]; · iexact HsO
      isplitl [HsA]; · iexact HsA
      isplitl [HsB]; · iexact HsB
      iexact HsE
    iexact Hy
  iintro ⟨Hs, Hy⟩
  rw [wp_ret]
  imod (close P (K (barCell c)) (barCell c)) $$ [HaBar] with HvB
  · isplitr; · iapply (known_bar P K c); iexact HK
    iexact HaBar
  imod (close P (K (sendCell c 0)) (sendCell c 0)) $$ [HaS₀] with HvS₀
  · isplitr; · iapply (known_send P K c 0); iexact HK
    iexact HaS₀
  imod (close P (K (sendCell c 1)) (sendCell c 1)) $$ [HaS₁] with HvS₁
  · isplitr; · iapply (known_send P K c 1); iexact HK
    iexact HaS₁
  imod (close P (K (sendCell c 2)) (sendCell c 2)) $$ [HaS₂] with HvS₂
  · isplitr; · iapply (known_send P K c 2); iexact HK
    iexact HaS₂
  imod (close_own P (K (recvCell c (place c))) c) $$ [HaO] with HvO
  · isplitr; · iapply (known_recv P K c (place c)); iexact HK
    iexact HaO
  imod (close P (K (recvCell c a)) (recvCell c a)) $$ [HaA] with HvA
  · isplitr; · iapply (known_recv P K c a); iexact HK
    iexact HaA
  imod (close P (K (recvCell c b)) (recvCell c b)) $$ [HaB] with HvBB
  · isplitr; · iapply (known_recv P K c b); iexact HK
    iexact HaB
  imod (close P (K (recvCell c e)) (recvCell c e)) $$ [HaE] with HvE
  · isplitr; · iapply (known_recv P K c e); iexact HK
    iexact HaE
  imodintro
  iapply Hk
  unfold bodyPost
  rw [bigSep_four hnd]
  isplitl [HvB]; · iexact HvB
  isplitl [HvS₀ HvS₁ HvS₂]
  · isplitl [HvS₀]; · iexact HvS₀
    isplitl [HvS₁]; · iexact HvS₁
    iexact HvS₂
  isplitl [HvO HvA HvBB HvE]
  · isplitl [HvO]; · iexact HvO
    isplitl [HvA]; · iexact HvA
    isplitl [HvBB]; · iexact HvBB
    iexact HvE
  isplitl [Hs]; · iexists _; iexact Hs
  isplitl [Hx]; · iexact Hx
  isplitl [Hy]; · iexact Hy
  iexact HO

/-- What the device holds of the exchange once its cells are open. -/
def opened : sProp 𝕄 :=
  iprop(known P K ∗ atPos ER (barCell c) 0 ∅ 0
    ∗ (sending c 0 ∗ sending c 1 ∗ sending c 2)
    ∗ (bigSep Finset.univ fun j : Fin 4 => atPos ER (recvCell c j) 0 ∅ 0)
    ∗ (bigSep Finset.univ fun j : Fin 4 => reached ER (recvCell c j) 0)
    ∗ (dutyTok ER (barCell (shift 1 c)) 0 1 ∗ dutyTok ER (barCell (shift 2 c)) 0 2 ∗ dutyTok ER (barCell (shift 3 c)) 0 3)
    ∗ (dutyTok ER (recvCell (shift 1 c) (place c)) 0 0 ∗ dutyTok ER (recvCell (shift 2 c) (place c)) 0 0
      ∗ dutyTok ER (recvCell (shift 3 c) (place c)) 0 0))

/-- The credit it waits with. -/
def credits : sProp 𝕄 :=
  iprop(cred (tallyAt (barCell c) () 3) ∗ bigSep (Finset.univ.erase (place c)) fun j : Fin 4 => cred (tallyAt (recvCell c j) () N))

/-- One barrier unit signalled. -/
theorem signal_step {k : Fin 4} (hk : k ∈ ({1, 2, 3} : Finset (Fin 4))) {n : Dev nD} (hn : n = shift k c)
    (O : CellTallies nD τ sig Unit) (O' : CellTallies nD τ sig Unit) (hO : O' = O + dueBar k c)
    (f : (cc1_scratch0 : Ref sig .tc).ty.Contents (Elt F)) (T : KProg F PUnit) (Q : PUnit → sProp 𝕄) :
    iprop(known P K ∗ owes (c : Thread nD τ) O' W ∗ dutyTok ER (barCell (shift k c)) 0 k
        ∗ slotPts c (place c + k) fullShare f ∗ reached ER (recvCell c (place c + k)) 0)
      ⊢ iprop((owes (c : Thread nD τ) O W -∗ wp frame (wpE (defs₀ (F := F)) 𝒱₀ c none) Set.univ T Q)
        -∗ wp frame (wpE (defs₀ (F := F)) 𝒱₀ c none) Set.univ (.op (.semSignal (Dev.tc n : Thread nD τ) barrier0 1) fun _ => T) Q) := by
  subst hn
  iintro ⟨#HK, HO, Ht, Hs, Hr⟩ Hk
  iapply (Rounds.wp_signal 𝒱₀ ER (xRd P) (c : Thread nD τ) none (dst := (shift k c : Thread nD τ)) (sem := barrier0) (r := 0) (d := k)
      (κ := K (barCell (shift k c))) (k' := 1) (by rw [duties_bar]; exact hk) (amount_bar P (shift k c) k) () O hO) $$ [HO Ht Hs Hr]
  · isplitr; · iapply (known_bar P K (shift k c)); iexact HK
    isplitl [HO]; · iexact HO
    isplitl [Ht]; · iexact Ht
    isplitl [Hs Hr]
    · rw [payload_bar]; unfold barPay; rw [neg_shift, place_shift]
      isplitl [Hs]; · iexists f; iexact Hs
      iexact Hr
    iapply (known_reached P K (shift k c)); iexact HK
  iexact Hk

set_option maxHeartbeats 1600000 in
theorem body_run (fy : (cc1_stg1_0 : Ref sig .tc).ty.Contents (Elt F)) (Q : PUnit → sProp 𝕄) :
    iprop(opened P K c ∗ credits c ∗ levAts L lv ∗ (∃ f, scrM.view.loc (c : Thread nD τ) ↦{fullShare} f)
        ∗ (inM.view.loc (c : Thread nD τ) ↦{fullShare} P c) ∗ (outM.view.loc (c : Thread nD τ) ↦{fullShare} fy)
        ∗ owes (c : Thread nD τ) (O₀ c) W ∗ (bodyPost P c -∗ Q ⟨⟩))
      ⊢ wp frame (wpE (defs₀ (F := F)) 𝒱₀ c none) Set.univ
          (cc1__combine_body (F := F) inM (Memref.isWhole_whole _) outM (Memref.isWhole_whole _) scrM (Memref.isWhole_whole _)
            cc1_scratch1 cc1_scratch2) Q := by
  rw [body_eq, wp_deviceId]
  unfold onDevice shake opened credits
  rw [bigSep_four (shifts_nodup (place c)) (fun j => reached ER (recvCell c j) 0)]
  iintro ⟨⟨#HK, HaBar, ⟨HS₀, HS₁, HS₂⟩, HaR, ⟨-, HrR₁, HrR₂, HrR₃⟩, ⟨HtB₁, HtB₂, HtB₃⟩, ⟨HtR₁, HtR₂, HtR₃⟩⟩, ⟨HcB, HcR⟩, #Hlev, ⟨%f, Hs⟩, Hx, Hy, HO, Hk⟩
  ihave Hs := (Entails.of_eq ((scratch_slots c f).trans (bigSep_four (shifts_nodup (place c)) _))) $$ Hs
  icases Hs with ⟨Hs₀, Hs₁, Hs₂, Hs₃⟩
  iapply (signal_step P K c W (k := 1) (by decide) (dev1_eq c) (O₁ c + dueBar 3 c + dueBar 2 c) (O₀ c) rfl f) $$ [HO HtB₁ Hs₁ HrR₁]
  · isplitr; · iexact HK
    isplitl [HO]; · iexact HO
    isplitl [HtB₁]; · iexact HtB₁
    isplitl [Hs₁]; · iexact Hs₁
    iexact HrR₁
  iintro HO
  iapply (signal_step P K c W (k := 2) (by decide) (dev2_eq c) (O₁ c + dueBar 3 c) (O₁ c + dueBar 3 c + dueBar 2 c) rfl f) $$ [HO HtB₂ Hs₂ HrR₂]
  · isplitr; · iexact HK
    isplitl [HO]; · iexact HO
    isplitl [HtB₂]; · iexact HtB₂
    isplitl [Hs₂]; · iexact Hs₂
    iexact HrR₂
  iintro HO
  iapply (signal_step P K c W (k := 3) (by decide) (dev3_eq c) (O₁ c) (O₁ c + dueBar 3 c) rfl f) $$ [HO HtB₃ Hs₃ HrR₃]
  · isplitr; · iexact HK
    isplitl [HO]; · iexact HO
    isplitl [HtB₃]; · iexact HtB₃
    isplitl [Hs₃]; · iexact Hs₃
    iexact HrR₃
  iintro HO
  iapply (Rounds.wp_wait_rest_token 𝒱₀ ER (xRd P) (c : Thread nD τ) none (κ := K (barCell c))
      (wpE_semWait_eq 𝒱₀ (c : Thread nD τ) none Set.univ) (Set.mem_univ _) () (O := O₁ c) (W := W) (R := 0) (m := 0) (T := ∅)
      ((Nat.zero_add 3).trans (expect_bar P c).symm)) $$ [HcB HO HaBar]
  · isplitr; · iapply (known_bar P K c); iexact HK
    isplitl [HcB]; · iexact HcB
    isplitl [HO]; · iexact HO
    isplitr; · iapply (mayWait_bar c); iexact Hlev
    iexact HaBar
  iintro ⟨HO, HaBar, -, Hp⟩
  ihave Hp := (Entails.of_eq (rest_bar P c)) $$ Hp
  unfold barPay
  icases Hp with ⟨⟨Hd₃, Hr₃⟩, ⟨Hd₂, Hr₂⟩, ⟨Hd₁, Hr₁⟩⟩
  have key : ∀ {o a b e : Fin 4} (ho : place c = o) (hnd : [o, a, b, e].Nodup) {n₁ n₂ n₃ : Dev nD} (hn₁ : n₁ = shift 1 c)
      (hn₂ : n₂ = shift 2 c) (hn₃ : n₃ = shift 3 c), (iprop(
        known P K ∗ atPos ER (barCell c) (0 + 1) ∅ 0
        ∗ (∃ f, slotPts c (place c) fullShare f) ∗ owes (c : Thread nD τ) (O₁ c) (insert (SemLoc.reg barrier0, ()) W)
        ∗ (inM.view.loc (c : Thread nD τ) ↦{fullShare} P c) ∗ (outM.view.loc (c : Thread nD τ) ↦{fullShare} fy)
        ∗ addressed c 1 ∗ addressed c 2 ∗ addressed c 3
        ∗ sending c 0 ∗ sending c 1 ∗ sending c 2
        ∗ (bigSep Finset.univ fun j : Fin 4 => atPos ER (recvCell c j) 0 ∅ 0)
        ∗ (bigSep (Finset.univ.erase (place c)) fun j : Fin 4 => cred (tallyAt (recvCell c j) () N))) : sProp 𝕄)
      ⊢ iprop((bodyPost P c -∗ Q ⟨⟩)
        -∗ wp frame (wpE (defs₀ (F := F)) 𝒱₀ c none) Set.univ (talk inM o a b e n₁ n₂ n₃ (finish outM)) Q) :=
    fun ho hnd _ _ _ hn₁ hn₂ hn₃ => exchange_run P K c _ ho hnd hn₁ hn₂ hn₃ fy Q
  ihave Hall : iprop(
        known P K ∗ atPos ER (barCell c) (0 + 1) ∅ 0
        ∗ (∃ f, slotPts c (place c) fullShare f) ∗ owes (c : Thread nD τ) (O₁ c) (insert (SemLoc.reg barrier0, ()) W)
        ∗ (inM.view.loc (c : Thread nD τ) ↦{fullShare} P c) ∗ (outM.view.loc (c : Thread nD τ) ↦{fullShare} fy)
        ∗ addressed c 1 ∗ addressed c 2 ∗ addressed c 3
        ∗ sending c 0 ∗ sending c 1 ∗ sending c 2
        ∗ (bigSep Finset.univ fun j : Fin 4 => atPos ER (recvCell c j) 0 ∅ 0)
        ∗ (bigSep (Finset.univ.erase (place c)) fun j : Fin 4 => cred (tallyAt (recvCell c j) () N)))
      $$ [HaBar Hs₀ HO Hx Hy HS₀ HS₁ HS₂ HaR HcR HtR₁ HtR₂ HtR₃ Hd₁ Hd₂ Hd₃ Hr₁ Hr₂ Hr₃]
  · isplitr; · iexact HK
    isplitl [HaBar]; · iexact HaBar
    isplitl [Hs₀]; · iexists f; iexact Hs₀
    isplitl [HO]; · iexact HO
    isplitl [Hx]; · iexact Hx
    isplitl [Hy]; · iexact Hy
    unfold addressed
    isplitl [Hd₁ HtR₁ Hr₁]
    · isplitl [Hd₁]; · iexact Hd₁
      isplitl [HtR₁]; · iexact HtR₁
      iexact Hr₁
    isplitl [Hd₂ HtR₂ Hr₂]
    · isplitl [Hd₂]; · iexact Hd₂
      isplitl [HtR₂]; · iexact HtR₂
      iexact Hr₂
    isplitl [Hd₃ HtR₃ Hr₃]
    · isplitl [Hd₃]; · iexact Hd₃
      isplitl [HtR₃]; · iexact HtR₃
      iexact Hr₃
    isplitl [HS₀]; · iexact HS₀
    isplitl [HS₁]; · iexact HS₁
    isplitl [HS₂]; · iexact HS₂
    isplitl [HaR]; · iexact HaR
    iexact HcR
  rcases conds c with ⟨h₁, h₂, h₃, h₄⟩ | ⟨h₁, h₂, h₃, h₄⟩ | ⟨h₁, h₂, h₃, h₄⟩ | ⟨h₁, h₂, h₃, h₄⟩
  · have hp := (cond1_iff c).mp h₁
    rw [dif_pos h₁]
    iapply (key hp (by decide) (Fin.ext (dev4_eq c hp)) (Fin.ext (dev5_eq c hp)) (Fin.ext (dev6_eq c hp))) $$ Hall
    iexact Hk
  · have hp := (cond2_iff c).mp h₂
    rw [dif_neg h₁, dif_pos h₂]
    iapply (key hp (by decide) (Fin.ext (dev7_eq c hp)) (Fin.ext (dev8_eq c hp)) (Fin.ext (dev9_eq c hp))) $$ Hall
    iexact Hk
  · have hp := (cond3_iff c).mp h₃
    rw [dif_neg h₁, dif_neg h₂, dif_pos h₃]
    iapply (key hp (by decide) (Fin.ext (dev10_eq c hp)) (Fin.ext (dev11_eq c hp)) (Fin.ext (dev12_eq c hp))) $$ Hall
    iexact Hk
  · have hp := (cond4_iff c).mp h₄
    rw [dif_neg h₁, dif_neg h₂, dif_neg h₃, dif_pos h₄]
    iapply (key hp (by decide) (Fin.ext (dev13_eq c hp)) (Fin.ext (dev14_eq c hp)) (Fin.ext (dev15_eq c hp))) $$ Hall
    iexact Hk

end Run

end Cert.KernelIdeal.Exchange

end
-- ==== Proof.KernelIdeal.Regions.lean ====
/-
  The two kernels as regions of the program: what each finds in its arrays, what it leaves there, and what is carried past it.
  The first region owes throughout what the second will pay; the second opens its own counters, runs the exchange and closes them.
-/
module

public import proofs.«01_k».proof.Proof.KernelIdeal.Body0
public import proofs.«01_k».proof.Proof.KernelIdeal.Body1
public import proofs.«01_k».proof.Proof.Gen.KernelIdeal.Regions
public import Idealize.ShloMosaic.Lib.Pipeline.RegionArraysS
public import Idealize.ShloMosaic.Lib.Pipeline.RegionTalk
public import Idealize.ShloMosaic.Lib.Pipeline.ValueKit.Geometry

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (P : Dev nD → (⟨S16x3x1024, .f32⟩ : BufTy).Contents (Elt F)) (K : GSem nD τ sig → ℕ)

/-! ## Opening the kernel's own counters -/

/-- The seven counters the second kernel declares for itself. -/
def osem1 : Fin 3 ⊕ Fin 4 → SemLoc sig
  | .inl i => .dma (sendS i)
  | .inr j => .dma (recvS j)

theorem own_eq (c : Dev nD) : (Pipeline.ownSems0 osem1 c : sProp 𝕄)
    = iprop((bigSep Finset.univ fun i : Fin 3 => semVal (sendCell c i) 0) ∗ bigSep Finset.univ fun j : Fin 4 => semVal (recvCell c j) 0) :=
  bigSep_univ_sum (fun k : Fin 3 ⊕ Fin 4 => (semVal ((c : Thread nD τ), osem1 k) 0 : sProp 𝕄))

theorem fin_three (Φ : Fin 3 → sProp 𝕄) : bigSep Finset.univ Φ = iprop(Φ 0 ∗ Φ 1 ∗ Φ 2) :=
  bigSep_univ_eq_bigSepL [0, 1, 2] (by decide) (by decide) Φ

theorem known_sends (d : Dev nD) : known P K ⊢ bigSep Finset.univ fun i : Fin 3 => cellInv ER (xRd P) (K (sendCell d i)) (sendCell d i) := by
  unfold known; rw [bigSep_univ_prod (fun p : Dev nD × Fin 3 => cellInv ER (xRd P) (K (sendCell p.1 p.2)) (sendCell p.1 p.2))]
  exact (sep_elim_right.trans sep_elim_left).trans
    (bigSep_elim (Φ := fun d : Dev nD => bigSep Finset.univ fun i : Fin 3 => cellInv ER (xRd P) (K (sendCell d i)) (sendCell d i)) (Finset.mem_univ d))
theorem known_recvs (d : Dev nD) : known P K ⊢ bigSep Finset.univ fun j : Fin 4 => cellInv ER (xRd P) (K (recvCell d j)) (recvCell d j) := by
  unfold known; rw [bigSep_univ_prod (fun p : Dev nD × Fin 4 => cellInv ER (xRd P) (K (recvCell p.1 p.2)) (recvCell p.1 p.2))]
  exact ((sep_elim_right.trans sep_elim_right).trans sep_elim_left).trans
    (bigSep_elim (Φ := fun d : Dev nD => bigSep Finset.univ fun j : Fin 4 => cellInv ER (xRd P) (K (recvCell d j)) (recvCell d j)) (Finset.mem_univ d))

/-- A family of counters at zero, each with its opening token, opened. -/
theorem open_all {I : Type} [Fintype I] [DecidableEq I] (g : I → GSem nD τ sig) :
    iprop((bigSep Finset.univ fun i => cellInv ER (xRd P) (K (g i)) (g i)) ∗ (bigSep Finset.univ fun i => openTok ER (g i)) ∗ bigSep Finset.univ fun i => semVal (g i) 0)
      ⊢ (iprop(|={Set.univ}=> ((bigSep Finset.univ fun i => atPos ER (g i) 0 ∅ 0) ∗ bigSep Finset.univ fun i => reached ER (g i) 0)) : sProp 𝕄) := by
  rw [← bigSep_sep' Finset.univ (fun i => (openTok ER (g i) : sProp 𝕄)), ← bigSep_sep',
    ← bigSep_sep' Finset.univ (fun i => (atPos ER (g i) 0 ∅ 0 : sProp 𝕄))]
  exact (bigSep_mono fun i _ => Rounds.cell_open ER (xRd P) (Set.mem_univ (K (g i)))).trans (bigSep_fupd _ _)

/-- What is dealt to a device at launch and carried to the second kernel. -/
def ghost (c : Dev nD) : sProp 𝕄 :=
  iprop(known P K ∗ atPos ER (barCell c) 0 ∅ 0
    ∗ (bigSep Finset.univ fun i : Fin 3 => openTok ER (sendCell c i)) ∗ (bigSep Finset.univ fun j : Fin 4 => openTok ER (recvCell c j))
    ∗ (bigSep Finset.univ fun i : Fin 3 => dutyTok ER (sendCell c i) 0 0)
    ∗ (dutyTok ER (barCell (shift 1 c)) 0 1 ∗ dutyTok ER (barCell (shift 2 c)) 0 2 ∗ dutyTok ER (barCell (shift 3 c)) 0 3)
    ∗ (dutyTok ER (recvCell (shift 1 c) (place c)) 0 0 ∗ dutyTok ER (recvCell (shift 2 c) (place c)) 0 0
      ∗ dutyTok ER (recvCell (shift 3 c) (place c)) 0 0))

def Tk (c : Dev nD) : sProp 𝕄 := iprop((∃ K, ghost P K c) ∗ credits c)
def Xk (c : Dev nD) : sProp 𝕄 := iprop((∃ K, opened P K c) ∗ credits c ∗ levAts L lv)
def Yk (c : Dev nD) : sProp 𝕄 := semVal (barCell c) 0

theorem hopen (c : Dev nD) : iprop(Tk P c ∗ Pipeline.ownSems0 osem1 c ∗ levAts L lv) ⊢ (|={Set.univ}=> Xk P c : sProp 𝕄) := by
  rw [own_eq]
  unfold Tk Xk ghost
  iintro ⟨⟨⟨%K, ⟨#HK, HaB, HoS, HoR, HtS, HtB, HtR⟩⟩, Hc⟩, ⟨Hs, Hr⟩, Hlev⟩
  imod (open_all P K (sendCell c)) $$ [HoS Hs] with ⟨HaS, HrS⟩
  · isplitr; · iapply (known_sends P K c); iexact HK
    isplitl [HoS] <;> iassumption
  imod (open_all P K (recvCell c)) $$ [HoR Hr] with ⟨HaR, HrR⟩
  · isplitr; · iapply (known_recvs P K c); iexact HK
    isplitl [HoR] <;> iassumption
  imodintro
  isplitl [HaB HaS HrS HtS HaR HrR HtB HtR]
  · iexists K; unfold opened
    isplitr; · iexact HK
    isplitl [HaB]; · iexact HaB
    isplitl [HaS HrS HtS]
    · unfold sending
      ihave HaS := (Entails.of_eq (fin_three (fun i => atPos ER (sendCell c i) 0 ∅ 0))) $$ HaS
      ihave HrS := (Entails.of_eq (fin_three (fun i => reached ER (sendCell c i) 0))) $$ HrS
      ihave HtS := (Entails.of_eq (fin_three (fun i => dutyTok ER (sendCell c i) 0 0))) $$ HtS
      icases HaS with ⟨Ha₀, Ha₁, Ha₂⟩
      icases HrS with ⟨Hr₀, Hr₁, Hr₂⟩
      icases HtS with ⟨Ht₀, Ht₁, Ht₂⟩
      isplitl [Ha₀ Hr₀ Ht₀]
      · isplitl [Ha₀]; · iexact Ha₀
        isplitl [Hr₀] <;> iassumption
      isplitl [Ha₁ Hr₁ Ht₁]
      · isplitl [Ha₁]; · iexact Ha₁
        isplitl [Hr₁] <;> iassumption
      isplitl [Ha₂]; · iexact Ha₂
      isplitl [Hr₂] <;> iassumption
    isplitl [HaR]; · iexact HaR
    isplitl [HrR]; · iexact HrR
    isplitl [HtB]; · iexact HtB
    iexact HtR
  isplitl [Hc]; · iexact Hc
  iexact Hlev

/-! ## The second region's data -/

variable (Y₀ : Dev nD → (main_v4 : Ref sig .tc).ty.Contents (Elt F))

/-- Before its one point it owes everything it will pay; after it, nothing. -/
def datT (c : Dev nD) : Dat τ (Elt F) Unit ℕ UU ℕ cfg1 c where
  A | 0 => P c | 1 => Y₀ c
  after | 0 => fun _ => P c | 1 => fun _ => outv P c
  Φ t := iprop(Pipeline.scopedRest spec1 c ∗ (∃ r, prngReg c r) ∗ if t.val = 0 then Xk P c else iprop(Pipeline.ownSems0 osem1 c ∗ Yk c))
  q _ := fullShare
  owed t := if t.val = 0 then O₀ c else 0

theorem owed_first (c : Dev nD) : (datT P Y₀ c).owed t1_0.castSucc = O₀ c := by
  show (if t1_0.castSucc.val = 0 then O₀ c else 0) = O₀ c; exact if_pos rfl
theorem owed_last (c : Dev nD) : (datT P Y₀ c).owed (Fin.last cfg1.N) = 0 := by
  show (if (Fin.last cfg1.N).val = 0 then O₀ c else 0) = 0
  rw [Fin.val_last, if_neg (by rw [show cfg1.N = 1 from N_1]; decide)]

/-- What the device owes, at some recorded waits, out of the region's data and into it. -/
theorem owesAt_elim {cfg : Pipeline.Cfg sig Λ₀} {c : Dev nD} (d : Dat τ (Elt F) Unit ℕ UU ℕ cfg c) (t : Fin (cfg.N + 1))
    (O : CellTallies nD τ sig Unit) (h : d.owed t = O) : (d.owesAt () t : sProp 𝕄) ⊢ iprop(∃ W, owes (c : Thread nD τ) O W) := by
  unfold Dat.owesAt Pipeline.owesWithin; rw [h]
  iintro ⟨%W, -, HO⟩; iexists W; iexact HO
theorem owesAt_intro {cfg : Pipeline.Cfg sig Λ₀} {c : Dev nD} (d : Dat τ (Elt F) Unit ℕ UU ℕ cfg c) (t : Fin (cfg.N + 1))
    (O : CellTallies nD τ sig Unit) (h : d.owed t = O) (hr : d.recorded t = Set.univ) (W : Waits sig Unit) :
    (owes (c : Thread nD τ) O W : sProp 𝕄) ⊢ (d.owesAt () t : sProp 𝕄) := by
  unfold Dat.owesAt Pipeline.owesWithin Dat.bound; rw [h, hr]
  iintro HO; iexists W; isplitr; · ipureintro; exact fun _ _ => Or.inl trivial
  iexact HO

theorem before_in (c : Dev nD) (d) : (datT P Y₀ c).before 0 t1_0 d = P c := by
  unfold Dat.before; rw [if_pos (fetch1_0 t1_0)]
  funext i
  show P c ((win1_0.blk t1_0).view.emb i) = P c i
  congr 1; funext a; apply Fin.ext
  exact Pipeline.Window.rect_emb_val_of_index_zero win1_0 t1_0 a rfl i

theorem bodyT (c : Dev nD) : BodyObligation (datT P Y₀ c) (defs₀ (F := F)) 𝒱₀ () Set.univ := fun t => by
  obtain rfl := fin_N1 t
  rw [bigSep_W1, bigSep_W1]
  show iprop((datT P Y₀ c).Φ t1_0.castSucc ∗ (datT P Y₀ c).owesAt () t1_0.castSucc
      ∗ ((∃ d, owns (c : Thread nD τ) inM fullShare ((datT P Y₀ c).before 0 t1_0 d))
        ∗ (∃ d, owns (c : Thread nD τ) outM fullShare ((datT P Y₀ c).before 1 t1_0 d))))
    ⊢ wp frame (wpE (defs₀ (F := F)) 𝒱₀ c none) Set.univ
        (cc1__combine_body (F := F) inM (Memref.isWhole_whole _) outM (Memref.isWhole_whole _) scrM (Memref.isWhole_whole _) cc1_scratch1 cc1_scratch2) fun _ =>
      iprop((datT P Y₀ c).Φ t1_0.succ ∗ (datT P Y₀ c).owesAt () t1_0.succ
        ∗ (owns (c : Thread nD τ) inM fullShare (P c) ∗ owns (c : Thread nD τ) outM fullShare (outv P c)))
  simp only [before_in, owns_whole_eq]
  rw [show (datT P Y₀ c).Φ t1_0.castSucc = iprop(Pipeline.scopedRest spec1 c ∗ (∃ r, prngReg c r) ∗ Xk P c) from rfl,
    show (datT P Y₀ c).Φ t1_0.succ = iprop(Pipeline.scopedRest spec1 c ∗ (∃ r, prngReg c r) ∗ (Pipeline.ownSems0 osem1 c ∗ Yk c)) from rfl,
    scopedRest1_eq, own_eq]
  unfold Xk Yk
  iintro ⟨⟨⟨H0, H1, H2, H3, H4, H5, H6, H7, Hs⟩, Hp, ⟨%K, HK⟩, Hc, Hlev⟩, HO, ⟨%d, ⟨%fx, %hx, Hx⟩⟩, ⟨%d', ⟨%fy, -, Hy⟩⟩⟩
  subst hx
  ihave HO := (owesAt_elim (datT P Y₀ c) _ (O₀ c) (owed_first P Y₀ c)) $$ HO
  icases HO with ⟨%W, HO⟩
  iapply (body_run P K c W _ _)
  isplitl [HK]; · iexact HK
  isplitl [Hc]; · iexact Hc
  isplitl [Hlev]; · iexact Hlev
  isplitl [Hs]; · iexact Hs
  isplitl [Hx]; · iexact Hx
  isplitl [Hy]; · iexact Hy
  isplitl [HO]; · iexact HO
  unfold bodyPost
  iintro ⟨Hb, ⟨Hs₀, Hs₁, Hs₂⟩, Hr, Hs, Hx, Hy, ⟨%W', HO⟩⟩
  isplitr [HO Hx Hy]
  · isplitl [H0 H1 H2 H3 H4 H5 H6 H7 Hs]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact Hs
    isplitl [Hp]; · iexact Hp
    isplitr [Hb]
    · isplitr [Hr]
      · rw [fin_three]
        isplitl [Hs₀]; · iexact Hs₀
        isplitl [Hs₁] <;> iassumption
      iexact Hr
    iexact Hb
  isplitl [HO]; · iapply (owesAt_intro (datT P Y₀ c) t1_0.succ 0 (owed_last P Y₀ c) rfl W'); iexact HO
  isplitl [Hx]
  · iexists P c; isplitr; · ipureintro; rfl
    iexact Hx
  iexists outv P c; isplitr; · ipureintro; rfl
  iexact Hy

end Cert.KernelIdeal.Exchange

end
-- ==== Proof.KernelIdeal.Records.lean ====
/-
  The two regions' records, and the states of a device between the program's items.
-/
module

public import proofs.«01_k».proof.Proof.KernelIdeal.Regions

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents between the items -/

/-- What the first region leaves: a device's packed statistics and accumulator. -/
@[irreducible] def Pm (c : Dev nD) : (⟨S16x3x1024, .f32⟩ : BufTy).Contents (Elt F) := Partial.packed (V1 m) c

/-- What the regions leave in the buffers they write. -/
def outs : Outs (F := F) := fun n r c =>
  if n = 2 then Function.update (V1 m c) (Proc.devRef .tc main_v3) (Pm m c) (Proc.devRef .tc r)
  else Function.update (V1 m c) (Proc.devRef .tc main_v4) (outv (Pm m) c) (Proc.devRef .tc r)

theorem outs_packed (c : Dev nD) : outs m 2 main_v3 c = Pm m c := by
  unfold outs; rw [if_pos rfl]; exact Function.update_self _ _ _
theorem outs_final (c : Dev nD) : outs m 3 main_v4 c = outv (Pm m) c := by
  unfold outs; rw [if_neg (by decide)]; exact Function.update_self _ _ _

theorem V2_packed (c : Dev nD) : V2 m (outs m) c main_v3 = Pm m c := (Function.update_self _ _ _).trans (outs_packed m c)
theorem V3_final (c : Dev nD) : V3 m (outs m) c main_v4 = outv (Pm m) c := (Function.update_self _ _ _).trans (outs_final m c)

/-- The result's array as the second region finds it. -/
def Y₁ (c : Dev nD) : (main_v4 : Ref sig .tc).ty.Contents (Elt F) := V2 m (outs m) c main_v4

/-- Both regions' data. -/
def pdats : (p : Fin 2) → (c : Dev nD) → Dat τ (Elt F) Unit ℕ UU ℕ (cfgs p) c
  | 0 => fun c => Partial.dat (V1 m) (O₀ c) c
  | 1 => fun c => datT (Pm m) (Y₁ m) c

theorem packed_owing (c : Dev nD) : (Partial.dat (V1 m) (O₀ c) c).arrAt 3 cfg0.N = Pm m c := by unfold Pm Partial.packed; rfl

/-! ## Levels -/

theorem owed_level {c : Dev nD} {g : GSem nD τ sig} {i : Unit} (h : 0 < O₀ c g i) : i ∈ L g ∧ (0 : ℕ) < lv g i := by
  rcases O₀_pos h with ⟨d, rfl⟩ | ⟨d, j, rfl⟩
  · exact ⟨by rw [L_tc]; exact Finset.mem_singleton_self _, by rw [lv_bar]; decide⟩
  · exact ⟨by rw [L_tc]; exact Finset.mem_singleton_self _, by rw [lv_recv]; decide⟩

theorem lv_low (c : Dev nD) (s : DmaSem sig) (h : role (.dma s) = .idle) : lv ((c : Thread nD τ), .dma s) () ≤ 0 := by
  unfold lv; rw [show role ((c : Thread nD τ), SemLoc.dma s).2 = .idle from h]

theorem idle0 : ∀ (w : Fin cfg0.W) (s : Fin (cfg0.win w).nbuf), role (.dma ((cfg0.win w).sem s)) = .idle := by decide
theorem idle1 : ∀ (w : Fin cfg1.W) (s : Fin (cfg1.win w).nbuf), role (.dma ((cfg1.win w).sem s)) = .idle := by decide

theorem cut0 : Pipeline.LevelCut (pcfgs (F := F)) adm () L lv 0 O₀ (fun _ => 0) where
  hι _ _ _ := by rw [L_tc]; exact Finset.mem_singleton_self _
  hιb c w s := lv_low c _ (idle0 w s)
  hD _ _ _ h := owed_level h

theorem cut1 : Pipeline.LevelCutOwed (pcfgs (F := F)) adm (pdats m) () L lv 1 (fun _ => 0) where
  hι _ _ _ := by rw [L_tc]; exact Finset.mem_singleton_self _
  hιb c w s := lv_low c _ (idle1 w s)
  hD c t g i h := by
    have e : (pdats m 1 c).owed t = if t.val = 0 then O₀ c else 0 := rfl
    rw [e] at h
    split at h
    · exact owed_level h
    · exact absurd h (Nat.lt_irrefl 0)

/-! ## The states between the items -/

/-- Before and between the two kernels: everything owed, the register, what the launch dealt. -/
def before (c : Dev nD) : sProp 𝕄 :=
  iprop((∃ W, owes (c : Thread nD τ) (O₀ c) W) ∗ (∃ r, prngReg c r) ∗ Tk (Pm m) c)
/-- After them: nothing owed, the barrier's counter at zero. -/
def done (c : Dev nD) : sProp 𝕄 := iprop(semVal (barCell c) 0 ∗ ∃ W, owes (c : Thread nD τ) (0 : CellTallies nD τ sig Unit) W)

def E : Fin 3 → Dev nD → sProp 𝕄
  | 0 => before m
  | 1 => before m
  | 2 => done

/-! ## The first region -/

theorem arrs_sub0 : Pipeline.arrRefs (τ := τ) spec0 ⊆ Pipeline.ucRefs τ sig := by decide
theorem arrs_sub1 : Pipeline.arrRefs (τ := τ) spec1 ⊆ Pipeline.ucRefs τ sig := by decide

set_option backward.isDefEq.respectTransparency.types false in
def reg0 : Pipeline.RegionSeg (pcfgs (F := F)) adm (pdats m) () defs₀ 𝒱₀ L lv 0 :=
  Pipeline.RegionSeg.ofHeldIn (pcfgs (F := F)) adm (pdats m) () defs₀ 𝒱₀ L lv 0 O₀ (Pipeline.ucRefs τ sig)
    (fun c => iprop(∃ r, prngReg c r)) (fun c => iprop(∃ r, prngReg c r)) launch0.toP rfl
    (fun c => (Partial.body (V1 m) (O₀ c) c).loose) (fun _ _ => rfl) (fun _ => rfl) (fun _ w => by fin_cases w <;> rfl)
    (fun _ => .rfl) (fun _ => .rfl) (fun _ => 0) cut0 (Tk (Pm m)) (V1 m) (fun _ w => by fin_cases w <;> rfl)

theorem pre0 (c : Dev nD) : iprop(StableHlo.held (c : Thread nD τ) (Pipeline.ucRefs τ sig) (V1 m c) ∗ E m 0 c) ⊢ (reg0 m).pre c := by
  show iprop(_ ∗ before m c) ⊢ iprop(StableHlo.held (c.tc : Thread nD τ) (Pipeline.arrRefs (τ := τ) spec0) (V1 m c) ∗ (∃ r, prngReg c r)
    ∗ (StableHlo.held (c.tc : Thread nD τ) (Pipeline.ucRefs τ sig \ Pipeline.arrRefs (τ := τ) spec0) (V1 m c) ∗ Tk (Pm m) c)
    ∗ ∃ Wd, owes (c : Thread nD τ) (O₀ c) Wd)
  rw [StableHlo.held_sub_split (c.tc : Thread nD τ) arrs_sub0 (V1 m c)]
  unfold before
  iintro ⟨⟨Ha, Hr⟩, HO, Hp, HT⟩
  isplitl [Ha]; · iexact Ha
  isplitl [Hp]; · iexact Hp
  isplitl [Hr HT]
  · isplitl [Hr] <;> iassumption
  iexact HO

theorem after0 (c : Dev nD) : Pipeline.afterRegion (pdats m 0 c) (V1 m c) = V2 m (outs m) c := by
  funext b
  by_cases hb : ∃ w : Fin cfg0.W, b = Proc.devRef .tc (Pipeline.arrRef cfg0.spec w)
  · obtain ⟨w, rfl⟩ := hb
    refine (Pipeline.afterRegion_arr (pdats m 0 c) (V1 m c) winFacts0.arr_inj w).trans ?_
    fin_cases w
    · exact ((pdats m 0 c).arrAt_in 0 rfl _).trans (V2_of m (outs m) c main_arg0 (by decide)).symm
    · exact ((pdats m 0 c).arrAt_in 1 rfl _).trans (V2_of m (outs m) c main_v1 (by decide)).symm
    · exact ((pdats m 0 c).arrAt_in 2 rfl _).trans (V2_of m (outs m) c main_v2 (by decide)).symm
    · exact (packed_owing m c).trans (V2_packed m c).symm
  · unfold Pipeline.afterRegion
    refine (dif_neg hb).trans ?_
    exact (Function.update_of_ne (fun e => hb ⟨3, e⟩) _ _).symm

theorem post0 (c : Dev nD) : (reg0 m).post c ⊢ iprop(StableHlo.held (c : Thread nD τ) (Pipeline.ucRefs τ sig) (V2 m (outs m) c) ∗ E m 1 c) := by
  have off := StableHlo.held_congr (Ix := Unit) (Name := ℕ) (U := UU) (Lvl := ℕ) (c.tc : Thread nD τ) (S := Pipeline.ucRefs τ sig \ Pipeline.arrRefs (τ := τ) spec0)
    (Pipeline.afterRegion_off (pdats m 0 c) (V1 m c) (Pipeline.ucRefs τ sig))
  rw [after0] at off
  have e : (reg0 m).post c = iprop(StableHlo.held (c.tc : Thread nD τ) (Pipeline.arrRefs (τ := τ) spec0) (Pipeline.afterRegion (pdats m 0 c) (V1 m c)) ∗ (∃ r, prngReg c r)
    ∗ (StableHlo.held (c.tc : Thread nD τ) (Pipeline.ucRefs τ sig \ Pipeline.arrRefs (τ := τ) spec0) (V1 m c) ∗ Tk (Pm m) c)
    ∗ ∃ Wd, owes (c : Thread nD τ) (O₀ c) Wd) := rfl
  rw [e, after0, ← off]
  show _ ⊢ iprop(_ ∗ before m c)
  rw [StableHlo.held_sub_split (c.tc : Thread nD τ) arrs_sub0 (V2 m (outs m) c)]
  unfold before
  iintro ⟨Ha, Hp, ⟨Hr, HT⟩, HO⟩
  isplitl [Ha Hr]
  · isplitl [Ha] <;> iassumption
  isplitl [HO]; · iexact HO
  isplitl [Hp] <;> iassumption

/-! ## The second region -/

theorem in1 (c : Dev nD) : (pdats m 1 c).arrAt 0 cfg1.N = V3 m (outs m) c main_v3 :=
  ((pdats m 1 c).arrAt_in 0 rfl _).trans ((V2_packed m c).symm.trans (V3_of m (outs m) c main_v3 (by decide)).symm)

theorem out1 (c : Dev nD) : (pdats m 1 c).arrAt 1 cfg1.N = outv (Pm m) c :=
  (pdats m 1 c).arrAt_eq_of_after_last 1 t1_0 (by decide +kernel) _ fun j => rfl

theorem start1 (c : Dev nD) (w : Fin cfg1.W) : (pdats m 1 c).arrAt w 0 = V2 m (outs m) c (Proc.devRef .tc (Pipeline.arrRef cfg1.spec w)) := by
  fin_cases w
  · exact (V2_packed m c).symm
  · rfl
theorem final1 (c : Dev nD) (w : Fin cfg1.W) : (pdats m 1 c).arrAt w cfg1.N = V3 m (outs m) c (Proc.devRef .tc (Pipeline.arrRef cfg1.spec w)) := by
  fin_cases w
  · exact in1 m c
  · exact (out1 m c).trans (V3_final m c).symm

theorem rest1 (c : Dev nD) : ∀ b ∈ (Pipeline.ucRefs τ sig \ Pipeline.arrRefs (τ := τ) spec1) \ ∅, V3 m (outs m) c b = V2 m (outs m) c b := fun b hb =>
  have hne : b ≠ Proc.devRef .tc main_v4 := fun e =>
    (Finset.mem_sdiff.mp (Finset.mem_sdiff.mp hb).1).2 (e ▸ (by decide : (Proc.devRef .tc main_v4 : DevRef τ sig) ∈ Pipeline.arrRefs (τ := τ) spec1))
  Function.update_of_ne hne _ _

theorem hin (c : Dev nD) : iprop(Pipeline.scopedRest (Pipeline.pin (pcfgs (F := F)) adm 1).spec c ∗ (∃ r, prngReg c r)
      ∗ StableHlo.held (c.tc : Thread nD τ) ∅ (V2 m (outs m) c) ∗ Xk (Pm m) c) ⊢ (pdats m 1 c).Φ 0 := by
  have e : (pdats m 1 c).Φ 0 = iprop(Pipeline.scopedRest spec1 c ∗ (∃ r, prngReg c r) ∗ Xk (Pm m) c) := rfl
  rw [e]
  iintro ⟨Hs, Hp, -, HX⟩
  isplitl [Hs]; · iexact Hs
  isplitl [Hp] <;> iassumption

theorem hout (c : Dev nD) : (pdats m 1 c).Φ (Fin.last (Pipeline.pin (pcfgs (F := F)) adm 1).N)
    ⊢ iprop(Pipeline.scopedRest (Pipeline.pin (pcfgs (F := F)) adm 1).spec c ∗ (∃ r, prngReg c r)
      ∗ StableHlo.held (c.tc : Thread nD τ) ∅ (V3 m (outs m) c) ∗ Pipeline.ownSems0 osem1 c ∗ Yk c) := by
  have e : (pdats m 1 c).Φ (Fin.last cfg1.N) = iprop(Pipeline.scopedRest spec1 c ∗ (∃ r, prngReg c r) ∗ (Pipeline.ownSems0 osem1 c ∗ Yk c)) := rfl
  refine (Entails.of_eq e).trans ?_
  iintro ⟨Hs, Hp, Ho, HY⟩
  isplitl [Hs]; · iexact Hs
  isplitl [Hp]; · iexact Hp
  isplitr; · unfold StableHlo.held; rw [BI.bigSep_empty]; iempintro
  isplitl [Ho] <;> iassumption

theorem body1 (c : Dev nD) : BodyObligation (pdats m 1 c) (defs₀ (F := F)) 𝒱₀ () Set.univ := bodyT (Pm m) (Y₁ m) c

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 (by decide : Pipeline.OwnSemFacts spec1 osem1)
    ∅ (Pipeline.ucRefs τ sig \ Pipeline.arrRefs (τ := τ) spec1) (Finset.empty_subset _) launch1.toP rfl
    (fun c => (body1 m c).loose) (fun _ => 0) O₀ (fun c => (owed_first (Pm m) (Y₁ m) c).trans (zero_add _).symm)
    (fun c => owed_last (Pm m) (Y₁ m) c) (fun _ => rfl) (fun _ w => by fin_cases w <;> rfl)
    (V2 m (outs m)) (V3 m (outs m)) (rest1 m) (Tk (Pm m)) Yk (Xk (Pm m)) Yk (hopen (Pm m)) (hin m) (hout m)
    (fun c => by iintro H; imodintro; iexact H) (fun _ => 0) (cut1 m) (fun _ => iprop(emp)) (start1 m) (final1 m)

theorem pre1 (c : Dev nD) : iprop(StableHlo.held (c : Thread nD τ) (Pipeline.ucRefs τ sig) (V2 m (outs m) c) ∗ E m 1 c) ⊢ (reg1 m).pre c := by
  show iprop(_ ∗ before m c) ⊢ iprop(StableHlo.held (c.tc : Thread nD τ) (Pipeline.arrRefs (τ := τ) spec1) (V2 m (outs m) c) ∗ (∃ r, prngReg c r)
    ∗ (StableHlo.held (c.tc : Thread nD τ) (Pipeline.ucRefs τ sig \ Pipeline.arrRefs (τ := τ) spec1) (V2 m (outs m) c) ∗ emp)
    ∗ Tk (Pm m) c ∗ ∃ Wd, owes (c : Thread nD τ) (0 + O₀ c) Wd)
  rw [StableHlo.held_sub_split (c.tc : Thread nD τ) arrs_sub1 (V2 m (outs m) c), zero_add]
  unfold before
  iintro ⟨⟨Ha, Hr⟩, HO, Hp, HT⟩
  isplitl [Ha]; · iexact Ha
  isplitl [Hp]; · iexact Hp
  isplitl [Hr]
  · isplitl [Hr]; · iexact Hr
    iempintro
  isplitl [HT] <;> iassumption

theorem post1 (c : Dev nD) : (reg1 m).post c ⊢ iprop(StableHlo.held (c : Thread nD τ) (Pipeline.ucRefs τ sig) (V3 m (outs m) c) ∗ E m 2 c) := by
  show iprop(StableHlo.held (c.tc : Thread nD τ) (Pipeline.arrRefs (τ := τ) spec1) (V3 m (outs m) c) ∗ (∃ r, prngReg c r)
    ∗ (StableHlo.held (c.tc : Thread nD τ) (Pipeline.ucRefs τ sig \ Pipeline.arrRefs (τ := τ) spec1) (V3 m (outs m) c) ∗ emp)
    ∗ Yk c ∗ ∃ Wd, owes (c : Thread nD τ) (0 : CellTallies nD τ sig Unit) Wd) ⊢ iprop(_ ∗ done c)
  rw [StableHlo.held_sub_split (c.tc : Thread nD τ) arrs_sub1 (V3 m (outs m) c)]
  unfold done Yk
  iintro ⟨Ha, -, ⟨Hr, -⟩, Hb, HO⟩
  isplitl [Ha Hr]
  · isplitl [Ha] <;> iassumption
  isplitl [Hb] <;> iassumption

end Cert.KernelIdeal.Exchange

end
-- ==== Proof.KernelIdeal.Launch.lean ====
/-
  The launch of the exchange on the thirty-two devices: every counter's invariant, every duty's token dealt to the device that
  pays it, and every credit to the device that waits for it.
-/
module

public import proofs.«01_k».proof.Proof.KernelIdeal.Records
public import Idealize.ShloMosaic.Harness.Basic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (P : Dev nD → (⟨S16x3x1024, .f32⟩ : BufTy).Contents (Elt F))

/-! ## The counters -/

theorem osem1_inj : Function.Injective osem1 := by decide
theorem osem1_not_bar : ∀ k, osem1 k ≠ .reg barrier0 := by decide

/-- The barrier counter of every device. -/
def barEmb : Dev nD ↪ GSem nD τ sig := ⟨barCell, fun _ _ h => congrArg (fun g : GSem nD τ sig => g.1.1) h⟩
/-- The seven counters of every device that the second kernel declares. -/
def ownEmb : Dev nD × (Fin 3 ⊕ Fin 4) ↪ GSem nD τ sig :=
  ⟨fun p => ((p.1 : Thread nD τ), osem1 p.2), fun _ _ h =>
    Prod.ext (congrArg (fun g : GSem nD τ sig => g.1.1) h) (osem1_inj (congrArg Prod.snd h))⟩

abbrev barCells : Finset (GSem nD τ sig) := Finset.univ.map barEmb
abbrev ownCells : Finset (GSem nD τ sig) := Finset.univ.map ownEmb

theorem cells_disjoint : Disjoint barCells ownCells := by
  rw [Finset.disjoint_left]
  intro g hb ho
  obtain ⟨c, -, rfl⟩ := Finset.mem_map.mp hb
  obtain ⟨p, -, h⟩ := Finset.mem_map.mp ho
  exact osem1_not_bar p.2 (congrArg Prod.snd h)

theorem over_bars (Φ : GSem nD τ sig → sProp 𝕄) : bigSep barCells Φ = bigSep Finset.univ fun c : Dev nD => Φ (barCell c) :=
  bigSep_map barEmb
theorem over_own (Φ : GSem nD τ sig → sProp 𝕄) : bigSep ownCells Φ
    = bigSep Finset.univ fun c : Dev nD => iprop((bigSep Finset.univ fun i : Fin 3 => Φ (sendCell c i)) ∗ bigSep Finset.univ fun j : Fin 4 => Φ (recvCell c j)) := by
  unfold ownCells; rw [bigSep_map, bigSep_univ_prod]
  exact bigSep_congr fun c _ => bigSep_univ_sum (fun k : Fin 3 ⊕ Fin 4 => Φ ((c : Thread nD τ), osem1 k))

/-! ## The duties, by the device that pays them -/

/-- The nine duties device `p.1` pays: three barrier units, three arrivals, three departures. -/
def tok (p : Dev nD × Fin 9) : GSem nD τ sig × ℕ × Fin 4 := match p.2 with
  | 0 => (barCell (shift 1 p.1), 0, 1)
  | 1 => (barCell (shift 2 p.1), 0, 2)
  | 2 => (barCell (shift 3 p.1), 0, 3)
  | 3 => (recvCell (shift 1 p.1) (place p.1), 0, 0)
  | 4 => (recvCell (shift 2 p.1) (place p.1), 0, 0)
  | 5 => (recvCell (shift 3 p.1) (place p.1), 0, 0)
  | 6 => (sendCell p.1 0, 0, 0)
  | 7 => (sendCell p.1 1, 0, 0)
  | 8 => (sendCell p.1 2, 0, 0)

/-- Who pays a duty, and which of the nine it is. -/
def payer (x : GSem nD τ sig × ℕ × Fin 4) : Dev nD × Fin 9 := match role x.1.2 with
  | .bar => (shift (-x.2.2) x.1.1.1, Fin.ofNat 9 (x.2.2.val - 1))
  | .recv j => (atPlace x.1.1.1 j, Fin.ofNat 9 (2 + (place x.1.1.1 - j).val))
  | .send i => (x.1.1.1, Fin.ofNat 9 (6 + i.val))
  | .idle => (x.1.1.1, 0)

theorem payer_tok : ∀ p, payer (tok p) = p := by decide +kernel

def tokEmb : Dev nD × Fin 9 ↪ GSem nD τ sig × ℕ × Fin 4 := ⟨tok, Function.LeftInverse.injective payer_tok⟩
abbrev toks : Finset (GSem nD τ sig × ℕ × Fin 4) := Finset.univ.map tokEmb

/-- One device's nine tokens. -/
def paid (c : Dev nD) : sProp 𝕄 :=
  iprop(dutyTok ER (barCell (shift 1 c)) 0 1 ∗ dutyTok ER (barCell (shift 2 c)) 0 2 ∗ dutyTok ER (barCell (shift 3 c)) 0 3
    ∗ dutyTok ER (recvCell (shift 1 c) (place c)) 0 0 ∗ dutyTok ER (recvCell (shift 2 c) (place c)) 0 0
    ∗ dutyTok ER (recvCell (shift 3 c) (place c)) 0 0
    ∗ dutyTok ER (sendCell c 0) 0 0 ∗ dutyTok ER (sendCell c 1) 0 0 ∗ dutyTok ER (sendCell c 2) 0 0)

theorem fin_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem toks_eq : bigSep toks (fun x => (dutyTok ER x.1 x.2.1 x.2.2 : sProp 𝕄)) = bigSep Finset.univ fun c : Dev nD => paid c := by
  unfold toks; rw [bigSep_map, bigSep_univ_prod]
  exact bigSep_congr fun c _ => by rw [fin_nine]; rfl

/-! ## The records and a device's own share -/

/-- Every counter's invariant under one choice of names; round 0 of every barrier reached. -/
def records (κ : GSem nD τ sig → ℕ) : sProp 𝕄 :=
  iprop((bigSep (barCells ∪ ownCells) fun g => cellInv ER (xRd P) (κ g) g) ∗ bigSep barCells fun g => reached ER g 0)

theorem records_known (κ : GSem nD τ sig → ℕ) : records P κ ⊢ known P κ := by
  unfold records known
  rw [show (bigSep (barCells ∪ ownCells) fun g => (cellInv ER (xRd P) (κ g) g : sProp 𝕄))
      = iprop((bigSep barCells fun g => cellInv ER (xRd P) (κ g) g) ∗ bigSep ownCells fun g => cellInv ER (xRd P) (κ g) g) from
      bigSep_union cells_disjoint, over_bars, over_bars, over_own, bigSep_sep',
    bigSep_univ_prod (fun p : Dev nD × Fin 3 => cellInv ER (xRd P) (κ (sendCell p.1 p.2)) (sendCell p.1 p.2)),
    bigSep_univ_prod (fun p : Dev nD × Fin 4 => cellInv ER (xRd P) (κ (recvCell p.1 p.2)) (recvCell p.1 p.2))]
  iintro ⟨⟨Hb, Hs, Hr⟩, HR⟩
  isplitl [Hb]; · iexact Hb
  isplitl [Hs]; · iexact Hs
  isplitl [Hr] <;> iassumption

/-- What stays with one device. -/
def share (c : Dev nD) : sProp 𝕄 :=
  iprop(atPos ER (barCell c) 0 ∅ 0
    ∗ ((bigSep Finset.univ fun i : Fin 3 => openTok ER (sendCell c i)) ∗ bigSep Finset.univ fun j : Fin 4 => openTok ER (recvCell c j))
    ∗ paid c)

theorem ghost_intro (κ : GSem nD τ sig → ℕ) (c : Dev nD) : iprop(known P κ ∗ share c) ⊢ iprop(∃ K, ghost P K c) := by
  unfold share paid ghost
  iintro ⟨HK, Ha, ⟨HoS, HoR⟩, HB₁, HB₂, HB₃, HR₁, HR₂, HR₃, HS₀, HS₁, HS₂⟩
  iexists κ
  isplitl [HK]; · iexact HK
  isplitl [Ha]; · iexact Ha
  isplitl [HoS]; · iexact HoS
  isplitl [HoR]; · iexact HoR
  isplitl [HS₀ HS₁ HS₂]
  · rw [fin_three]
    isplitl [HS₀]; · iexact HS₀
    isplitl [HS₁] <;> iassumption
  isplitl [HB₁ HB₂ HB₃]
  · isplitl [HB₁]; · iexact HB₁
    isplitl [HB₂] <;> iassumption
  isplitl [HR₁]; · iexact HR₁
  isplitl [HR₂] <;> iassumption

/-! ## The credits -/

theorem cred_bar (k : Fin 4) (c : Dev nD) : (Pipeline.launchCred (dueBar k) c : sProp 𝕄) ⊢ cred (tallyAt (barCell c) () 1) :=
  Pipeline.launchCred_tallyAt (.reg barrier0) (shift k) (shift (-k)) (shift_neg k) (neg_shift k) () 1 c

theorem cred_recv (k : Fin 4) (c : Dev nD) :
    (Pipeline.launchCred (dueRecv k) c : sProp 𝕄) ⊢ cred (tallyAt (recvCell c (place c + -k)) () N) := by
  refine Entails.of_eq ((Pipeline.launchCred_of_sum (dueRecv k) (fun d => tallyAt (recvCell d (place d + -k)) () N) ?_ ?_ c))
  · rw [← Equiv.sum_comp (shiftEquiv k) (fun d : Dev nD => (tallyAt (recvCell d (place d + -k)) () N : CellTallies nD τ sig Unit))]
    refine Finset.sum_congr rfl fun d _ => ?_
    show _ = tallyAt (recvCell (shift k d) (place (shift k d) + -k)) () N
    rw [place_shift, add_neg_cancel_right]
  · intro d g h
    by_contra hne
    refine h (Finsupp.ext fun u => ?_)
    rw [tallyAt_apply, if_neg (fun e => hne (by rw [e.1]))]; rfl

theorem cred_split (c : Dev nD) : (Pipeline.launchCred O₀ c : sProp 𝕄) = iprop(((((Pipeline.launchCred (dueRecv 3) c ∗ Pipeline.launchCred (dueRecv 2) c)
    ∗ Pipeline.launchCred (dueRecv 1) c) ∗ Pipeline.launchCred (dueBar 3) c) ∗ Pipeline.launchCred (dueBar 2) c) ∗ Pipeline.launchCred (dueBar 1) c) := by
  rw [← Pipeline.launchCred_add, ← Pipeline.launchCred_add, ← Pipeline.launchCred_add, ← Pipeline.launchCred_add, ← Pipeline.launchCred_add]; rfl

theorem cred_three (c : Dev nD) : iprop(cred (tallyAt (barCell c) () 1) ∗ cred (tallyAt (barCell c) () 1) ∗ cred (tallyAt (barCell c) () 1))
    ⊢ (cred (tallyAt (barCell c) () 3) : sProp 𝕄) := by
  refine (sep_mono_right (cred_add _ _).2).trans ((cred_add _ _).2.trans (Entails.of_eq (congrArg cred ?_)))
  rw [tallyAt_add, tallyAt_add]

theorem credits_intro (c : Dev nD) : (Pipeline.launchCred O₀ c : sProp 𝕄) ⊢ credits c := by
  rw [cred_split]
  unfold credits
  rw [bigSep_erase (shifts_nodup (place c))]
  iintro ⟨⟨⟨⟨⟨R₃, R₂⟩, R₁⟩, B₃⟩, B₂⟩, B₁⟩
  isplitl [B₁ B₂ B₃]
  · iapply (cred_three c)
    isplitl [B₁]; · iapply (cred_bar 1 c); iexact B₁
    isplitl [B₂]; · iapply (cred_bar 2 c); iexact B₂
    iapply (cred_bar 3 c); iexact B₃
  isplitl [R₃]; · iapply (cred_recv 3 c); iexact R₃
  isplitl [R₂]; · iapply (cred_recv 2 c); iexact R₂
  iapply (cred_recv 1 c); iexact R₁

end Cert.KernelIdeal.Exchange

end
-- ==== Proof.KernelIdeal.Run.lean ====
/-
  The whole program on the thirty-two devices: what every final state holds.
-/
module

public import proofs.«01_k».proof.Proof.KernelIdeal.Launch

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat BodyObligation Seg)

variable {F : FTy → Type} [FloatOps F]

local notation "𝕄" => MT nD τ sig Unit (Elt F) ℕ UU ℕ

variable (m : (ℓ : Loc nD τ sig) → Buf (Elt F) ℓ) (ρ : Dev nD → PrngReg)

/-! ## The launch's one step on all devices -/

/-- The launch element: the staging counters' part, and the exchange's. -/
def u₀ : UU :=
  (initOf (Pipeline.cells (Pipeline.pin (pcfgs (F := F)) adm) cellOf_inj) (Pipeline.launchToks (Pipeline.pin (pcfgs (F := F)) adm) cellOf_inj),
    launchOf barCells ownCells toks)

/-- The exchange's part, all of it with device 0 until it is dealt. -/
def parked (c : Dev nD) : sProp 𝕄 := if c = 0 then BI.own (ER (launchOf barCells ownCells toks)) else iprop(emp)

theorem parked_all : bigSep Finset.univ (parked (F := F)) = BI.own (ER (launchOf barCells ownCells toks)) := by
  rw [bigSep_univ_at _ 0, bigSep_congr (s := Finset.univ.erase 0) (Φ := parked (F := F)) (Ψ := fun _ => (BI.emp : sProp 𝕄))
    fun c hc => if_neg (Finset.ne_of_mem_erase hc), BI.bigSep_emp_const]
  exact (BI.equiv_iff.mp sep_emp).trans (if_pos rfl)

/-- What a device's launch holdings give besides its share of the exchange. -/
def rest (c : Dev nD) : sProp 𝕄 :=
  iprop(StableHlo.held (c : Thread nD τ) (Pipeline.ucRefs τ sig) (V0 m c) ∗ credits c ∗ owes (c : Thread nD τ) (O₀ c) ∅ ∗ ∃ r, prngReg c r)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V4 m (outs m) c) ∗ semVal (barCell c) 0)

theorem sems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem start_intro (κ : GSem nD τ sig → ℕ) (c : Dev nD) : iprop(known (Pm m) κ ∗ (share c ∗ rest m c)) ⊢ T₀ m c := by
  show _ ⊢ iprop(_ ∗ before m c)
  unfold rest before Tk
  iintro ⟨HK, Hs, Hh, Hc, HO, Hp⟩
  isplitl [Hh]; · iexact Hh
  isplitl [HO]; · iexists ∅; iexact HO
  isplitl [Hp]; · iexact Hp
  isplitr [Hc]
  · iapply (ghost_intro (Pm m) κ c)
    isplitl [HK] <;> iassumption
  iexact Hc

/-- One device's launch holdings, sorted. -/
theorem sort (c : Dev nD) : iprop(unscopedBufs c (fun b => m ((c.tc : Thread nD τ).loc b)) ∗ unscopedSems0 c
      ∗ owes (c : Thread nD τ) (O₀ c) ∅ ∗ Pipeline.launchCred O₀ c ∗ prngReg c (ρ c) ∗ parked c)
    ⊢ (iprop(rest m c ∗ (semVal (barCell c) 0 ∗ parked c)) : sProp 𝕄) := by
  rw [show unscopedBufs c (fun b => m ((c.tc : Thread nD τ).loc b)) = StableHlo.held (c : Thread nD τ) (Pipeline.ucRefs τ sig) (V0 m c) from
    Pipeline.unscopedBufs_held c (V0 m c), sems_eq]
  unfold rest
  iintro ⟨Hh, Hb, HO, Hc, Hp, HG⟩
  isplitr [Hb HG]
  · isplitl [Hh]; · iexact Hh
    isplitl [Hc]; · iapply (credits_intro c); iexact Hc
    isplitl [HO]; · iexact HO
    iexists (ρ c); iexact Hp
  isplitl [Hb] <;> iassumption

theorem sort_all : (bigSep Finset.univ fun c : Dev nD => iprop(unscopedBufs c (fun b => m ((c.tc : Thread nD τ).loc b)) ∗ unscopedSems0 c
      ∗ owes (c : Thread nD τ) (O₀ c) ∅ ∗ Pipeline.launchCred O₀ c ∗ prngReg c (ρ c) ∗ parked c))
    ⊢ (bigSep Finset.univ fun c : Dev nD => iprop(rest m c ∗ (semVal (barCell c) 0 ∗ parked c)) : sProp 𝕄) :=
  bigSep_mono fun c _ => sort m ρ c

theorem init : iprop((bigSep Finset.univ fun c : Dev nD => iprop(unscopedBufs c (fun b => m ((c.tc : Thread nD τ).loc b)) ∗ unscopedSems0 c
      ∗ owes (c : Thread nD τ) (O₀ c) ∅ ∗ Pipeline.launchCred O₀ c ∗ prngReg c (ρ c) ∗ parked c)) ∗ levAts L lv)
    ⊢ (iprop(|={Set.univ}=> bigSep Finset.univ (T₀ m)) : sProp 𝕄) := by
  iintro ⟨H, -⟩
  ihave H := (sort_all m ρ) $$ H
  ihave H := bigSep_unpair $$ H
  icases H with ⟨HB, H⟩
  ihave H := bigSep_unpair $$ H
  icases H with ⟨Hv, HG⟩
  ihave HG := (Entails.of_eq (parked_all (F := F))) $$ HG
  ihave Hv := (Entails.of_eq (over_bars (fun g => (semVal g 0 : sProp 𝕄))).symm) $$ Hv
  imod (Rounds.fund_launch ER (xRd (Pm m)) cells_disjoint (fun g _ h => h) toks) $$ [Hv HG] with ⟨%κ, -, Hinv, Hr, Hat, Hopen, Htok⟩
  · isplitl [Hv] <;> iassumption
  ihave HK := (records_known (Pm m) κ) $$ [Hinv Hr]
  · unfold records
    isplitl [Hinv] <;> iassumption
  imodintro
  iapply (bigSep_with_persistent (R := known (Pm m) κ) (Φ := fun c => iprop(share c ∗ rest m c)) fun c _ => start_intro m κ c)
  isplitl [HK]; · iexact HK
  iapply bigSep_pair
  isplitr [HB]
  · unfold share
    iapply bigSep_pair; isplitl [Hat]; · iapply (Entails.of_eq (over_bars (fun g => (atPos ER g 0 ∅ 0 : sProp 𝕄)))); iexact Hat
    iapply bigSep_pair; isplitl [Hopen]; · iapply (Entails.of_eq (over_own (fun g => (openTok ER g : sProp 𝕄)))); iexact Hopen
    iapply (Entails.of_eq (toks_eq (F := F))); iexact Htok
  iexact HB

/-! ## The run -/

theorem only_barrier : ∀ sm : SemLoc sig, sm.isScoped .tc = false → sm = .reg barrier0 := by decide

/-- A buffer that outlives the kernels. -/
theorem kept (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- The program's items, the same on every device. -/
def items : List (Seg (pcfgs (F := F)) adm (pdats m) () defs₀ 𝒱₀ L lv) :=
  [.host (seg0 m 𝒱₀ L lv (E m)), .region (reg0 m), .region (reg1 m), .host (seg3 m (outs m) 𝒱₀ L lv (E m))]

theorem items_prog : (items m).map Seg.prog = [
    StableHlo.seq hostOps0,
    Prog.lift (.customCall (Pipeline.entry 0) ()),
    Prog.lift (.customCall (Pipeline.entry 1) ()),
    StableHlo.seq hostOps2 ] := rfl

theorem items_pipes : (Seg.pipes (items m)).Nodup := by
  simp only [items, Seg.pipes_host, Seg.pipes_region, Seg.pipes_nil]; decide

set_option backward.isDefEq.respectTransparency.types false in
/-- From any memory with zero counters every weakly fair execution ends, with the result at what the program's items leave in it,
    the arguments as launched, and every counter at zero. -/
theorem run : θ_run defs (onTc (τ := τ) (main (F := F))) ⟨m, fun _ => 0, ρ⟩ (fun r =>
    (∀ c : Dev nD, r.2.mem ((c.tc : Thread nD τ).loc main_v5) = V4 m (outs m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_regions_kit_sems (pcfgs (F := F)) adm (pdats m) () cellOf_inj EP defs₀ 𝒱₀ L lv m ρ main
    (items m)
    (fun c Q => by
      rewrite [main_chain c, Seg.run_eq_chain, items_prog]
      dsimp (config := { failIfUnchanged := false }) only
      exact .rfl)
    (items_pipes m)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, pre0 m, fun c => (post0 m c).trans (pre1 m c), post1 m, fun c => ?_⟩
      show iprop(StableHlo.held (c : Thread nD τ) (Pipeline.ucRefs τ sig) (V4 m (outs m) c) ∗ done c)
        ⊢ iprop(Tₙ m c ∗ ∃ W, owes (c : Thread nD τ) (0 : CellTallies nD τ sig Unit) W)
      unfold done
      iintro ⟨Hh, Hb, HO⟩
      isplitr [HO]
      · isplitl [Hh] <;> iassumption
      iexact HO)
    (hinit := init m ρ)
    (QY := fun c s => (s.mem ((c.tc : Thread nD τ).loc main_v5) = V4 m (outs m) c main_v5
      ∧ s.mem ((c.tc : Thread nD τ).loc main_arg0) = V4 m (outs m) c main_arg0
      ∧ s.mem ((c.tc : Thread nD τ).loc main_arg1) = V4 m (outs m) c main_arg1
      ∧ s.mem ((c.tc : Thread nD τ).loc main_arg2) = V4 m (outs m) c main_arg2) ∧ s.sem (barCell c) = 0)
    (hfin := fun c s' => by
      dsimp only [Tₙ]; unfold StableHlo.held
      iintro ⟨⟨Hh, Hb⟩, HSI⟩
      icombine HSI Hb gives %hb
      ihave Hr := (pointsTo_read_all (Pipeline.ucRefs τ sig) (fun b => ((c : Thread nD τ).1, b)) (V4 m (outs m) c) s') $$ [Hh HSI]
      · isplitl [Hh] <;> iassumption
      icases Hr with ⟨%h, HSI⟩
      imodintro
      isplitr
      · ipureintro
        exact ⟨⟨h _ (kept main_v5 (by decide)), h _ (kept main_arg0 (by decide)), h _ (kept main_arg1 (by decide)), h _ (kept main_arg2 (by decide))⟩,
          by simpa using hb⟩
      iexact HSI)
    (hQ := fun s h hs => ⟨fun c => by
        obtain ⟨⟨h₅, h₀, h₁, h₂⟩, -⟩ := h c
        exact ⟨h₅, h₀.trans (V4_main_arg0 m (outs m) c), h₁.trans (V4_main_arg1 m (outs m) c), h₂.trans (V4_main_arg2 m (outs m) c)⟩,
      sem_eq_zero hs fun c sm hsm => by
        obtain rfl := only_barrier sm hsm
        exact (h c).2⟩)

end Cert.KernelIdeal.Exchange

end
-- ==== Proof.Claims.Frames.lean ====
/-
  The three frames: every run ends, with the arguments as they were and every counter at zero.
-/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Lib.Quiescent

@[expose] public section

noncomputable section

namespace Cert.Claims

open Idealize.ShloMosaic Idealize.SL.Sem

theorem frame_printed : quiescent_Kernel (hKernel := Cert.Kernel.Gen.facts) := fun m g _ =>
  (θ_run _ _ _).mono (fun _ h => ⟨fun c => (h.1 c).2, h.2⟩) (Cert.Kernel.Exchange.run m g)

theorem frame_ideal : quiescent_KernelIdeal (hKernelIdeal := Cert.KernelIdeal.Gen.facts) :=
  fun m g _ =>
  (θ_run _ _ _).mono (fun _ h => ⟨fun c => (h.1 c).2, h.2⟩) (Cert.KernelIdeal.Exchange.run m g)

/-- The reference declares no semaphore, so none can be left off zero. -/
theorem frame_reference :
    quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

end Cert.Claims

end
-- ==== Proof.Value.Rows.lean ====
/-
  The first kernel's packed rows, entry by entry. The kernel works on lanes, 64 to a head, and keeps the heads apart by a mask of
  zeros and ones; read at a lane of head `h`, every sum over the heads is its one term at `h`, and the product of the masked query row
  with a key is the product of head `h`'s 64 entries.
-/
module

public import proofs.«01_k».proof.Proof.KernelIdeal.Body0
public import Idealize.ShloMosaic.Lib.Pointwise

@[expose] public section

set_option maxRecDepth 16384

noncomputable section

namespace Cert.KernelIdeal.Value

open Cert.KernelIdeal Cert.KernelIdeal.Gen
open Idealize.ShloMosaic

/-! ## Lanes -/

/-- Entry `d` of head `h` among the 1024 lanes. -/
def lane (h : Fin 16) (d : Fin 64) : Fin 1024 := ⟨64 * h.val + d.val, by omega⟩

theorem lane_div (h : Fin 16) (d : Fin 64) : (lane h d).val / 64 = h.val := by show (64 * h.val + d.val) / 64 = _; omega
theorem lane_mod (h : Fin 16) (d : Fin 64) : (lane h d).val % 64 = d.val := by show (64 * h.val + d.val) % 64 = _; omega

/-- Heads and entries are the lanes. -/
def laneEquiv : Fin 16 × Fin 64 ≃ Fin 1024 where
  toFun p := lane p.1 p.2
  invFun x := (⟨x.val / 64, by omega⟩, ⟨x.val % 64, by omega⟩)
  left_inv p := Prod.ext (Fin.ext (lane_div p.1 p.2)) (Fin.ext (lane_mod p.1 p.2))
  right_inv x := Fin.ext (by show 64 * (x.val / 64) + x.val % 64 = x.val; omega)

theorem sum_lanes {M : Type} [AddCommMonoid M] (f : Fin 1024 → M) : ∑ x, f x = ∑ h, ∑ d, f (lane h d) :=
  (Equiv.sum_comp laneEquiv f).symm.trans (Fintype.sum_prod_type _)

/-! ## The constants -/

/-- What a maximum starts from is below everything. -/
theorem lowest : Ideal.ofBits .f32 0xFF800000#32 = ⊥ := by
  simp [Ideal.ofBits, Ideal.ieee]

/-- The scores' scale, one eighth. -/
theorem scale : Ideal.ofBits .f32 0x3E000000#32 = ((1 / 8 : ℝ) : EReal) := by
  simp [Ideal.ofBits, Ideal.ieee]
  rw [← EReal.coe_mul]
  norm_num

/-! ## The mask -/

/-- The mask's row of a lane: the lane's number divided by 64, as the kernel computes it. -/
theorem headWord (x : Fin 1024) :
    Scalar.select
        (IntOp.andi
          (IntOp.cmpi .ne
            (IntOp.subi (BitVec.setWidth 32 (IntOp.cmpi .sgt (BitVec.ofNat 32 x.val) 0#32))
              (BitVec.setWidth 32 (IntOp.cmpi .slt (BitVec.ofNat 32 x.val) 0#32)))
            (Scalar.subi (Scalar.extui (Scalar.cmpi .sgt 64#32 0#32)) (Scalar.extui (Scalar.cmpi .slt 64#32 0#32))))
          (IntOp.cmpi .ne (IntOp.remsi .vector (BitVec.ofNat 32 x.val) 64#32) 0#32))
        (IntOp.subi (IntOp.divsi .vector (BitVec.ofNat 32 x.val) 64#32) 1#32)
        (IntOp.divsi .vector (BitVec.ofNat 32 x.val) 64#32)
      = BitVec.ofNat 32 (x.val / 64) := by
  revert x; decide +kernel

theorem mask_apply (h : Fin 16) (x : Fin 1024) :
    k0_pay3 (F := Ideal) (ix2 h x) = if x.val / 64 = h.val then (1 : EReal) else 0 := by
  have e : ∀ a b : Fin 16, BitVec.setWidth 32 (IntOp.cmpi .eq (BitVec.ofNat 32 a.val) (BitVec.ofNat 32 b.val))
      = if a.val = b.val then 1#32 else 0#32 := by decide +kernel
  pointwise [k0_pay3]
  rw [headWord x, e ⟨x.val / 64, by omega⟩ h]
  show (((if x.val / 64 = h.val then 1#32 else 0#32 : BitVec 32).toInt : ℝ) : EReal) = _
  split <;> simp

/-- A sum over the heads under the mask is its term at the lane's head. -/
theorem sum_masked (A : Fin 16 → EReal) (h : Fin 16) (d : Fin 64) :
    ∑ g : Fin 16, A g * k0_pay3 (F := Ideal) (ix2 g (lane h d)) = A h := by
  rw [Finset.sum_eq_single h]
  · rw [mask_apply, if_pos (lane_div h d), mul_one]
  · intro g _ hg
    rw [mask_apply, if_neg (by rw [lane_div]; exact fun e => hg (Fin.ext e.symm)), mul_zero]
  · exact fun hh => absurd (Finset.mem_univ _) hh

/-! ## The query row in every head's lanes -/

/-- Copies of a block of 64 columns side by side, read in copy `t`. -/
theorem copies_apply (a : FVec Ideal S16x64 .f32) (h : Fin 16) (x : Fin 1024) (d : Fin 64) (n t : ℕ) (ht : t ≤ n)
    (hs : ∀ s ∈ ((List.replicate (n + 1) (⟨S16x64, a⟩ : (s : Shape) × (s.Idx → EReal))).map (·.1)), s.FitsOff S16x1024 1)
    (hc : 64 * t + d.val < (axisSizes S16x1024 1 (List.replicate (n + 1) (⟨S16x64, a⟩ : (s : Shape) × (s.Idx → EReal)))).sum) :
    concatenateAt S16x1024 1 (ix2 h x) (List.replicate (n + 1) ⟨S16x64, a⟩) hs (64 * t + d.val) hc = a (ix2 h d) := by
  induction n generalizing t with
  | zero =>
    obtain rfl : t = 0 := by omega
    refine (concatenateAt_singleton (1 : Fin S16x1024.rank) (ix2 h x) a hs _ hc).trans (congrArg a ?_)
    funext b; match b with
    | ⟨0, _⟩ => rfl
    | ⟨1, _⟩ => exact Fin.ext (show 64 * 0 + d.val = d.val by omega)
  | succ n ih =>
    refine (concatenateAt_cons (1 : Fin S16x1024.rank) (ix2 h x) a ⟨S16x64, a⟩ (List.replicate n ⟨S16x64, a⟩) hs _ hc).trans ?_
    match t with
    | 0 =>
      refine (dif_pos (show 64 * 0 + d.val < 64 by omega)).trans (congrArg a ?_)
      funext b; match b with
      | ⟨0, _⟩ => rfl
      | ⟨1, _⟩ => exact Fin.ext (show 64 * 0 + d.val = d.val by omega)
    | t + 1 =>
      refine (dif_neg (show ¬ 64 * (t + 1) + d.val < 64 by omega)).trans ?_
      have e : 64 * (t + 1) + d.val - 64 = 64 * t + d.val := by omega
      have := ih t (by omega) (fun s h => hs s (List.mem_cons_of_mem _ h))
        (by
          have := hc
          rw [show List.replicate (n + 1 + 1) (⟨S16x64, a⟩ : (s : Shape) × (s.Idx → EReal)) = ⟨S16x64, a⟩ :: List.replicate (n + 1) ⟨S16x64, a⟩ from rfl,
            axisSizes_cons S16x1024 1 ⟨S16x64, a⟩ _ (hs _ List.mem_cons_self), List.sum_cons] at this
          have this : 64 * (t + 1) + d.val
              < 64 + (axisSizes S16x1024 1 (List.replicate (n + 1) (⟨S16x64, a⟩ : (s : Shape) × (s.Idx → EReal)))).sum := this
          omega)
      refine Eq.trans ?_ this
      congr 1

/-- Sixteen copies of the query's heads side by side. -/
def tiled (a : FVec Ideal S16x64 .f32) : FVec Ideal S16x1024 .f32 :=
  concatenate S16x1024 1 [⟨S16x64, a⟩, ⟨S16x64, a⟩, ⟨S16x64, a⟩, ⟨S16x64, a⟩, ⟨S16x64, a⟩, ⟨S16x64, a⟩, ⟨S16x64, a⟩, ⟨S16x64, a⟩,
    ⟨S16x64, a⟩, ⟨S16x64, a⟩, ⟨S16x64, a⟩, ⟨S16x64, a⟩, ⟨S16x64, a⟩, ⟨S16x64, a⟩, ⟨S16x64, a⟩, ⟨S16x64, a⟩]
    concatenates_S16x64_S16x64_S16x64_S16x64_S16x64_S16x64_S16x64_S16x64_S16x64_S16x64_S16x64_S16x64_S16x64_S16x64_S16x64_S16x64_S16x1024_d1

theorem tiled_apply (a : FVec Ideal S16x64 .f32) (h t : Fin 16) (d : Fin 64) : tiled a (ix2 h (lane t d)) = a (ix2 h d) := by
  unfold tiled
  rw [concatenate_apply]
  exact copies_apply a h (lane t d) d 15 t.val (by omega) _ _

/-! ## The scores -/

/-- Head `h`'s score of key `n`. -/
def score (q : Vec Ideal S1x1x16x64 .f32) (k : Vec Ideal S1x1024x1024 .f32) (h : Fin 16) (n : Fin 1024) : EReal :=
  (∑ d : Fin 64, q (ix4 0 0 h d) * k (ix3 0 n (lane h d))) * Ideal.ofBits .f32 0x3E000000#32

theorem scores_eq (q : Vec Ideal S1x1x16x64 .f32) (k : Vec Ideal S1x1024x1024 .f32) :
    k0_pay4 q k = mulf (matmul dot_S16x1024_S1024x1024_S16x1024_1_1_0_0_n_n none
        (mulf (tiled (shapeCast S16x64 q shapeCasts_S1x1x16x64_S16x64)) (k0_pay3 (F := Ideal)))
        (shapeCast S1024x1024 k shapeCasts_S1x1024x1024_S1024x1024 : FVec Ideal S1024x1024 .f32) (constant S16x1024 .f32 0x00000000#32))
      (broadcast S16x1024 (Scalar.ofBits (F := Ideal) .f32 0x3E000000#32)) := rfl

theorem scores_apply (q : Vec Ideal S1x1x16x64 .f32) (k : Vec Ideal S1x1024x1024 .f32) (h : Fin 16) (n : Fin 1024) :
    k0_pay4 q k (ix2 h n) = score q k h n := by
  rw [scores_eq]
  pointwise
  unfold score
  congr 1
  rw [sum_lanes, Finset.sum_eq_single h]
  · refine Finset.sum_congr rfl fun d _ => ?_
    rw [tiled_apply, mask_apply, if_pos (lane_div h d), mul_one]
    pointwise
  · intro g _ hg
    refine Finset.sum_eq_zero fun d _ => ?_
    rw [mask_apply, if_neg (by rw [lane_div]; exact fun e => hg (Fin.ext e)), mul_zero, zero_mul]
  · exact fun hh => absurd (Finset.mem_univ _) hh

/-! ## The packed rows -/

section Packed

variable (q : Vec Ideal S1x1x16x64 .f32) (k v : Vec Ideal S1x1024x1024 .f32) (h : Fin 16) (d : Fin 64)

/-- The greatest of head `h`'s scores. -/
def top : EReal := Finset.univ.fold max ⊥ fun n : Fin 1024 => score q k h n

theorem rows_sum : Partial.rows q k v (ix3 0 0 (lane h d))
    = ∑ n : Fin 1024, Ideal.exp (score q k h n - top q k h) * v (ix3 0 n (lane h d)) := by
  pointwise [Partial.rows, k0_pay1, k0_pay2]
  rw [sum_masked]
  simp only [scores_apply, lowest]
  rfl

theorem rows_top : Partial.rows q k v (ix3 0 1 (lane h d)) = top q k h := by
  pointwise [Partial.rows, k0_pay1]
  rw [sum_masked]
  simp only [scores_apply, lowest]
  rfl

theorem rows_weight : Partial.rows q k v (ix3 0 2 (lane h d)) = ∑ n : Fin 1024, Ideal.exp (score q k h n - top q k h) := by
  pointwise [Partial.rows, k0_pay1]
  rw [sum_masked]
  simp only [scores_apply, lowest]
  rfl

end Packed

end Cert.KernelIdeal.Value

end
-- ==== Proof.Value.Combine.lean ====
/-
  The second kernel's output, entry by entry: the four devices' sums and weights, each scaled by the exponential of its maximum less the
  greatest maximum, added up and divided.
-/
module

public import proofs.«01_k».proof.Proof.KernelIdeal.Body1
public import Idealize.ShloMosaic.Lib.Pointwise

@[expose] public section

set_option maxRecDepth 16384

noncomputable section

namespace Cert.KernelIdeal.Value

open Cert.KernelIdeal Cert.KernelIdeal.Gen Cert.KernelIdeal.Exchange
open Idealize.ShloMosaic

/-- Four partial results combined, from their maxima, sums and weights. -/
def merge (a o l : Fin 4 → EReal) : EReal :=
  Ideal.div
    (o 0 * Ideal.exp (a 0 - max (max (max (a 0) (a 1)) (a 2)) (a 3)) + o 1 * Ideal.exp (a 1 - max (max (max (a 0) (a 1)) (a 2)) (a 3))
      + o 2 * Ideal.exp (a 2 - max (max (max (a 0) (a 1)) (a 2)) (a 3)) + o 3 * Ideal.exp (a 3 - max (max (max (a 0) (a 1)) (a 2)) (a 3)))
    (l 0 * Ideal.exp (a 0 - max (max (max (a 0) (a 1)) (a 2)) (a 3)) + l 1 * Ideal.exp (a 1 - max (max (max (a 0) (a 1)) (a 2)) (a 3))
      + l 2 * Ideal.exp (a 2 - max (max (max (a 0) (a 1)) (a 2)) (a 3)) + l 3 * Ideal.exp (a 3 - max (max (max (a 0) (a 1)) (a 2)) (a 3)))

theorem combined_apply (s : Fin 4 → Vec Ideal S1x16x3x1024 .f32) (b : Fin 16) (x : Fin 1024) :
    combined (s 0) (s 1) (s 2) (s 3) (ix3 b 0 x)
      = merge (fun j => s j (ix4 0 b 1 x)) (fun j => s j (ix4 0 b 0 x)) (fun j => s j (ix4 0 b 2 x)) := by
  pointwise [combined, merge, k1_pay1, k1_pay6, k1_pay7, k1_pay8, k1_pay9, k1_pay10, k1_pay11, k1_pay12, k1_pay13, k1_pay14, k1_pay15,
    k1_pay16, k1_pay17, k1_pay18, k1_pay19]

variable (P : Dev nD → (⟨S16x3x1024, .f32⟩ : BufTy).Contents (Elt Ideal))

/-- Slot `j` as the kernel reads it is the packed rows of the device at place `j`. -/
theorem slotRead_apply (c : Dev nD) (j : Fin 4) (b : Fin 16) (r : Fin 3) (x : Fin 1024) :
    slotRead P c j (ix4 0 b r x) = P (atPlace c j) (ix3 b r x) := by
  show P (atPlace c (slotOf ((slotRect j).toLoadRect.idx (ix4 0 b r x)))) (Fin.tail ((slotRect j).toLoadRect.idx (ix4 0 b r x))) = _
  have hj : slotOf ((slotRect j).toLoadRect.idx (ix4 0 b r x)) = j := Fin.ext (show j.val + 1 * 0 = j.val by omega)
  have hi : Fin.tail ((slotRect j).toLoadRect.idx (ix4 0 b r x)) = ix3 b r x := by
    funext a; match a with
    | ⟨0, _⟩ => exact Fin.ext (show 0 + 1 * b.val = b.val by omega)
    | ⟨1, _⟩ => exact Fin.ext (show 0 + 1 * r.val = r.val by omega)
    | ⟨2, _⟩ => exact Fin.ext (show 0 + 1 * x.val = x.val by omega)
  rw [hj, hi]

theorem outv_apply (c : Dev nD) (b : Fin 16) (x : Fin 1024) :
    outv P c (ix3 b 0 x)
      = merge (fun j => P (atPlace c j) (ix3 b 1 x)) (fun j => P (atPlace c j) (ix3 b 0 x)) (fun j => P (atPlace c j) (ix3 b 2 x)) := by
  unfold outv
  rw [combined_apply (slotRead P c)]
  simp only [slotRead_apply]

end Cert.KernelIdeal.Value

end
-- ==== Proof.Value.Array.lean ====
/-
  The arrays between the two kernels, entry by entry: the blocks the first kernel reads, the packed rows it leaves, and the result.
-/
module

public import proofs.«01_k».proof.Proof.KernelIdeal.Run
public import proofs.«01_k».proof.Proof.Value.Rows
public import proofs.«01_k».proof.Proof.Value.Combine
public import Idealize.ShloMosaic.Lib.Pipeline.ValueKit

@[expose] public section

set_option maxRecDepth 16384

noncomputable section

namespace Cert.KernelIdeal.Value

open Cert.KernelIdeal Cert.KernelIdeal.Gen Cert.KernelIdeal.Exchange
open Idealize.ShloMosaic Idealize.ShloMosaic.TcCoe

variable (m : (ℓ : Loc nD τ sig) → Buf (Elt Ideal) ℓ)

/-! ## Where the windows' blocks lie -/

theorem index0 : ∀ t : Fin cfg0.N, win0_0.index t 0 = t.val ∧ win0_0.index t 1 = 0 ∧ win0_0.index t 2 = 0 ∧ win0_0.index t 3 = 0 := by
  decide +kernel
theorem index1 : ∀ t : Fin cfg0.N, win0_1.index t 0 = t.val ∧ win0_1.index t 1 = 0 ∧ win0_1.index t 2 = 0 := by decide +kernel
theorem index2 : ∀ t : Fin cfg0.N, win0_2.index t 0 = t.val ∧ win0_2.index t 1 = 0 ∧ win0_2.index t 2 = 0 := by decide +kernel
theorem index3 : ∀ t : Fin cfg0.N, win0_3.index t 0 = t.val ∧ win0_3.index t 1 = 0 ∧ win0_3.index t 2 = 0 := by decide +kernel

/-! ## What the regions find -/

theorem query_at (c : Dev nD) (t : Fin 16) (h : Fin 16) (d : Fin 64) :
    Partial.qBlk (V1 m) c t (ix4 0 0 h d) = m ((c.tc : Thread nD τ).loc main_arg0) (ix4 t 0 h d) := by
  unfold Partial.qBlk
  rw [V1_of m c main_arg0 (by decide)]
  refine congrArg (m ((c.tc : Thread nD τ).loc main_arg0)) ?_
  obtain ⟨e0, e1, e2, e3⟩ := index0 t
  blk_ext! [e0, e1, e2, e3]

theorem keys_reshaped (c : Dev nD) (b : Fin 16) (n : Fin 1024) (h : Fin 16) (d : Fin 64) :
    (V1 m c main_v1 : (⟨S16x1024x1024, .f32⟩ : BufTy).Contents (Elt Ideal)) (ix3 b n (lane h d)) = m ((c.tc : Thread nD τ).loc main_arg1) (ix4 b n h d) := by
  have e : V1 m c main_v1 = shapeCast S16x1024x1024 (m ((c.tc : Thread nD τ).loc main_arg1)) shapeCasts_S16x1024x16x64_S16x1024x1024 := by
    after_results; rfl
  rw [e]
  pointwise
  exact congrArg₂ (fun i j => m ((c.tc : Thread nD τ).loc main_arg1) (ix4 b n i j)) (Fin.ext (lane_div h d)) (Fin.ext (lane_mod h d))

theorem values_reshaped (c : Dev nD) (b : Fin 16) (n : Fin 1024) (h : Fin 16) (d : Fin 64) :
    (V1 m c main_v2 : (⟨S16x1024x1024, .f32⟩ : BufTy).Contents (Elt Ideal)) (ix3 b n (lane h d)) = m ((c.tc : Thread nD τ).loc main_arg2) (ix4 b n h d) := by
  have e : V1 m c main_v2 = shapeCast S16x1024x1024 (m ((c.tc : Thread nD τ).loc main_arg2)) shapeCasts_S16x1024x16x64_S16x1024x1024 := by
    after_results; rfl
  rw [e]
  pointwise
  exact congrArg₂ (fun i j => m ((c.tc : Thread nD τ).loc main_arg2) (ix4 b n i j)) (Fin.ext (lane_div h d)) (Fin.ext (lane_mod h d))

theorem keys_at (c : Dev nD) (t : Fin 16) (n : Fin 1024) (h : Fin 16) (d : Fin 64) :
    Partial.kBlk (V1 m) c t (ix3 0 n (lane h d)) = m ((c.tc : Thread nD τ).loc main_arg1) (ix4 t n h d) := by
  refine Eq.trans ?_ (keys_reshaped m c t n h d)
  unfold Partial.kBlk
  refine congrArg (V1 m c main_v1) ?_
  obtain ⟨e0, e1, e2⟩ := index1 t
  blk_ext! [e0, e1, e2]

theorem values_at (c : Dev nD) (t : Fin 16) (n : Fin 1024) (h : Fin 16) (d : Fin 64) :
    Partial.vBlk (V1 m) c t (ix3 0 n (lane h d)) = m ((c.tc : Thread nD τ).loc main_arg2) (ix4 t n h d) := by
  refine Eq.trans ?_ (values_reshaped m c t n h d)
  unfold Partial.vBlk
  refine congrArg (V1 m c main_v2) ?_
  obtain ⟨e0, e1, e2⟩ := index2 t
  blk_ext! [e0, e1, e2]

/-! ## What they leave -/

/-- The packed rows, batch index by batch index. -/
def packedRows (c : Dev nD) : (⟨S16x3x1024, .f32⟩ : BufTy).Contents (Elt Ideal) :=
  fun i => Partial.rows (Partial.qBlk (V1 m) c (i 0)) (Partial.kBlk (V1 m) c (i 0)) (Partial.vBlk (V1 m) c (i 0)) (ix3 0 (i 1) (i 2))

/-- Where point `t` puts an entry of its block. -/
theorem packed_place (t : Fin 16) (y1 : Fin 3) (y2 : Fin 1024) :
    ((win0_3.blk t).view.emb (ix3 0 y1 y2 : S1x3x1024.Idx) : S16x3x1024.Idx) = ix3 t y1 y2 := by
  obtain ⟨e0, e1, e2⟩ := index3 t
  blk_ext! [e0, e1, e2]

/-- What point `t` leaves at an entry of its block. -/
theorem packed_after (c : Dev nD) (t : Fin 16) (y1 : Fin 3) (y2 : Fin 1024) :
    (Partial.dat (V1 m) 0 c).after 3 t (ix3 0 y1 y2 : S1x3x1024.Idx) = packedRows m c (ix3 t y1 y2) := rfl

theorem block_entry (y : S1x3x1024.Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

theorem packed_entry (c : Dev nD) (t : Fin 16) (y : S1x3x1024.Idx) :
    (Partial.dat (V1 m) 0 c).after 3 t y = packedRows m c ((win0_3.blk t).view.emb y) := by
  have h : ((win0_3.blk t).view.emb y : S16x3x1024.Idx) = ix3 t (y 1) (y 2) :=
    (congrArg (fun z : S1x3x1024.Idx => ((win0_3.blk t).view.emb z : S16x3x1024.Idx)) (block_entry y)).trans (packed_place t (y 1) (y 2))
  exact (congrArg (fun z : S1x3x1024.Idx => (Partial.dat (V1 m) 0 c).after 3 t z) (block_entry y)).trans
    ((packed_after m c t (y 1) (y 2)).trans (congrArg (packedRows m c) h.symm))

theorem packed_eq (c : Dev nD) : Pm m c = packedRows m c := by
  unfold Pm Partial.packed
  refine (Partial.dat (V1 m) 0 c).arrAt_eq_of_covers 3 (packedRows m c) (by decide +kernel) fun t hf y => ?_
  blk_simp
  exact packed_entry m c t y

theorem packed_rows (c : Dev nD) (b : Fin 16) (r : Fin 3) (x : Fin 1024) :
    Pm m c (ix3 b r x) = Partial.rows (Partial.qBlk (V1 m) c b) (Partial.kBlk (V1 m) c b) (Partial.vBlk (V1 m) c b) (ix3 0 r x) := by
  rw [packed_eq]; rfl

theorem result_at (c : Dev nD) (b : Fin 16) (h : Fin 16) (d : Fin 64) :
    (V4 m (outs m) c main_v5 : (⟨S16x1x16x64, .f32⟩ : BufTy).Contents (Elt Ideal)) (ix4 b 0 h d) = outv (Pm m) c (ix3 b 0 (lane h d)) := by
  have e : V4 m (outs m) c main_v5 = shapeCast S16x1x16x64 (V3 m (outs m) c main_v4) shapeCasts_S16x1x1024_S16x1x16x64 := by
    after_results; rfl
  rw [e, V3_final]
  pointwise
  exact congrArg (fun i => outv (Pm m) c (ix3 b 0 i)) (Fin.ext (show h.val * 64 + d.val = 64 * h.val + d.val by omega))

end Cert.KernelIdeal.Value

end
-- ==== Proof.Value.Reference.lean ====
/-
  The reference's result, entry by entry, and what the precondition says of the arrays.
-/
module

public import proofs.«01_k».proof.Proof.Gen.ReferenceIdeal.Run
public import proofs.«01_k».proof.Proof.Value.Rows
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe

/-- The scaled product of a query with key `n`, both of batch index `b` and head `h`. -/
def score (q : FVec Ideal S16x1x16x64 .f32) (k : FVec Ideal S16x4096x16x64 .f32) (b h : Fin 16) (n : Fin 4096) : EReal :=
  (∑ d : Fin 64, q (ix4 b 0 h d) * k (ix4 b n h d)) * Ideal.ofBits .f32 0x3E000000#32

def scoresOf (q : FVec Ideal S16x1x16x64 .f32) (k : FVec Ideal S16x4096x16x64 .f32) : FVec Ideal S16x16x1x4096 .f32 :=
  mulf (Host.dotGeneral dot_S16x1x16x64_S16x4096x16x64_S16x16x1x4096_3_3_1_1_02_02 none q k) (broadcastInDim S16x16x1x4096 ![] bcast_S_S16x16x1x4096 (constant S_ .f32 0x3E000000#32))

theorem scoresOf_apply (q : FVec Ideal S16x1x16x64 .f32) (k : FVec Ideal S16x4096x16x64 .f32) (b h : Fin 16) (n : Fin 4096) :
    scoresOf q k (ix4 b h 0 n) = score q k b h n := by
  unfold scoresOf score
  pointwise

def attended (q : FVec Ideal S16x1x16x64 .f32) (k v : FVec Ideal S16x4096x16x64 .f32) : FVec Ideal S16x1x16x64 .f32 :=
  transpose S16x1x16x64 [0, 3, 1, 2] (Host.dotGeneral dot_S16x4096x16x64_S16x16x1x4096_S16x16x64x1_1_3_3_2_02_01 none v (Host.divf (Host.exp (subf (scoresOf q k) (broadcastInDim S16x16x1x4096 ![0, 1, 2, 3] bcast_S16x16x1x1_S16x16x1x4096_0_1_2_3 (broadcastInDim S16x16x1x1 ![0, 1, 2] bcast_S16x16x1_S16x16x1x1_0_1_2 (Host.reduce FloatOps.maximumf (scoresOf q k) (constant S_ .f32 0xFF800000#32) reducesTo_S16x16x1x4096_S16x16x1_d3 h_S_))))) (broadcastInDim S16x16x1x4096 ![0, 1, 2, 3] bcast_S16x16x1x1_S16x16x1x4096_0_1_2_3 (broadcastInDim S16x16x1x1 ![0, 1, 2] bcast_S16x16x1_S16x16x1x1_0_1_2 (Host.reduceAdd (Host.exp (subf (scoresOf q k) (broadcastInDim S16x16x1x4096 ![0, 1, 2, 3] bcast_S16x16x1x1_S16x16x1x4096_0_1_2_3 (broadcastInDim S16x16x1x1 ![0, 1, 2] bcast_S16x16x1_S16x16x1x1_0_1_2 (Host.reduce FloatOps.maximumf (scoresOf q k) (constant S_ .f32 0xFF800000#32) reducesTo_S16x16x1x4096_S16x16x1_d3 h_S_))))) (constant S_ .f32 0x00000000#32) reducesTo_S16x16x1x4096_S16x16x1_d3 h_S_))))) transposes_S16x16x64x1_S16x1x16x64_0_3_1_2

theorem attended_apply (q : FVec Ideal S16x1x16x64 .f32) (k v : FVec Ideal S16x4096x16x64 .f32) (b h : Fin 16) (d : Fin 64) :
    attended q k v (ix4 b 0 h d) = ∑ n, v (ix4 b n h d) * Ideal.div (Ideal.exp (score q k b h n - Finset.univ.fold max ⊥ fun n => score q k b h n))
      (∑ n, Ideal.exp (score q k b h n - Finset.univ.fold max ⊥ fun n => score q k b h n)) := by
  have e := scoresOf_apply q k b h
  unfold attended
  generalize scoresOf q k = s at e
  pointwise
  simp only [e, Cert.KernelIdeal.Value.lowest]

end Cert.ReferenceIdeal.Value

end
-- ==== Proof.Value.Softmax.lean ====
/-
  Combining four blocks' partial softmax averages gives the average over them all. The scores are real; the values averaged may be
  infinite, since a sum of extended reals may be multiplied through by a nonnegative real.
-/
module

public import Idealize.ShloMosaic.Lib.Pointwise

@[expose] public section

noncomputable section

namespace Cert.Softmax

open Idealize.ShloMosaic

/-! ## Sums and maxima of extended reals -/

/-- A sum multiplied by a nonnegative real, term by term. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum from `⊥`, characterised by its upper bounds. -/
theorem fold_max_le {ι : Type} (s : Finset ι) (f : ι → EReal) (b : EReal) : s.fold max ⊥ f ≤ b ↔ ∀ i ∈ s, f i ≤ b := by
  rw [Finset.fold_max_le]; exact ⟨fun h => h.2, fun h => ⟨bot_le, h⟩⟩

/-- The maximum of reals over a nonempty range is real. -/
theorem fold_max_real {n : ℕ} (f : Fin (n + 1) → ℝ) : ∃ r : ℝ, Finset.univ.fold max ⊥ (fun i => (f i : EReal)) = (r : EReal) := by
  obtain ⟨i, _, hi⟩ := Finset.exists_max_image Finset.univ f ⟨0, Finset.mem_univ _⟩
  refine ⟨f i, le_antisymm ((fold_max_le _ _ _).mpr fun j hj => EReal.coe_le_coe_iff.mpr (hi j hj)) ?_⟩
  exact (fold_max_le _ (fun i => (f i : EReal)) _).mp le_rfl i (Finset.mem_univ i)

/-! ## Positions -/

/-- Position `k` of block `j` in the whole range. -/
def pos (j : Fin 4) (k : Fin 1024) : Fin 4096 := ⟨1024 * j.val + k.val, by omega⟩

theorem pos_surj (n : Fin 4096) : ∃ j k, n = pos j k :=
  ⟨⟨n.val / 1024, by omega⟩, ⟨n.val % 1024, by omega⟩, Fin.ext (by show n.val = 1024 * (n.val / 1024) + n.val % 1024; omega)⟩

def posEquiv : Fin 4 × Fin 1024 ≃ Fin 4096 where
  toFun p := pos p.1 p.2
  invFun n := (⟨n.val / 1024, by omega⟩, ⟨n.val % 1024, by omega⟩)
  left_inv p := Prod.ext (Fin.ext (by show (1024 * p.1.val + p.2.val) / 1024 = p.1.val; omega))
    (Fin.ext (by show (1024 * p.1.val + p.2.val) % 1024 = p.2.val; omega))
  right_inv n := Fin.ext (by show 1024 * (n.val / 1024) + n.val % 1024 = n.val; omega)

theorem sum_pos {M : Type} [AddCommMonoid M] (f : Fin 4096 → M) : ∑ n, f n = ∑ j, ∑ k, f (pos j k) :=
  (Equiv.sum_comp posEquiv f).symm.trans (Fintype.sum_prod_type _)

/-- The whole range's maximum is the greatest of the blocks' maxima. -/
theorem max_blocks (f : Fin 4096 → EReal) (a : Fin 4 → EReal) (ha : ∀ j, a j = Finset.univ.fold max ⊥ fun k => f (pos j k)) :
    max (max (max (a 0) (a 1)) (a 2)) (a 3) = Finset.univ.fold max ⊥ f := by
  refine eq_of_forall_ge_iff fun b => ?_
  simp only [max_le_iff, ha, fold_max_le]
  constructor
  · rintro ⟨⟨⟨h0, h1⟩, h2⟩, h3⟩ n -
    obtain ⟨j, k, rfl⟩ := pos_surj n
    fin_cases j
    · exact h0 k (Finset.mem_univ _)
    · exact h1 k (Finset.mem_univ _)
    · exact h2 k (Finset.mem_univ _)
    · exact h3 k (Finset.mem_univ _)
  · exact fun h => ⟨⟨⟨fun k _ => h _ (Finset.mem_univ _), fun k _ => h _ (Finset.mem_univ _)⟩, fun k _ => h _ (Finset.mem_univ _)⟩,
      fun k _ => h _ (Finset.mem_univ _)⟩

/-! ## The combination -/

/-- One block's sum rescaled from the block's maximum to another. -/
theorem rescale {ι : Type} (s : Finset ι) (x : ι → ℝ) (v : ι → EReal) (a b : ℝ) :
    (∑ k ∈ s, Ideal.exp ((x k : EReal) - (a : EReal)) * v k) * Ideal.exp ((a : EReal) - (b : EReal))
      = ∑ k ∈ s, v k * (Real.exp (x k - b) : EReal) := by
  rw [← EReal.coe_sub, Ideal.exp_coe, sum_mul_real _ _ (Real.exp_pos _).le]
  refine Finset.sum_congr rfl fun k _ => ?_
  rw [← EReal.coe_sub, Ideal.exp_coe, mul_right_comm, ← EReal.coe_mul, ← Real.exp_add, mul_comm]
  congr 3; ring

theorem rescale_weight {ι : Type} (s : Finset ι) (x : ι → ℝ) (a b : ℝ) :
    (∑ k ∈ s, Ideal.exp ((x k : EReal) - (a : EReal))) * Ideal.exp ((a : EReal) - (b : EReal))
      = ((∑ k ∈ s, Real.exp (x k - b) : ℝ) : EReal) := by
  have h := rescale s x (fun _ => 1) a b
  simp only [mul_one, one_mul] at h
  rw [h, coe_sum]

/-- Four terms added in order are a sum over four. -/
theorem four {M : Type} [AddCommMonoid M] (f : Fin 4 → M) : f 0 + f 1 + f 2 + f 3 = ∑ j, f j := (Fin.sum_univ_four f).symm

/-- The blocks' sums and weights, rescaled to the greatest maximum, added and divided, are the average over the whole range. -/
theorem combine (x : Fin 4096 → ℝ) (v : Fin 4096 → EReal) (a o l : Fin 4 → EReal)
    (ha : ∀ j, a j = Finset.univ.fold max ⊥ fun k : Fin 1024 => (x (pos j k) : EReal))
    (ho : ∀ j, o j = ∑ k : Fin 1024, Ideal.exp ((x (pos j k) : EReal) - a j) * v (pos j k))
    (hl : ∀ j, l j = ∑ k : Fin 1024, Ideal.exp ((x (pos j k) : EReal) - a j)) (M : EReal)
    (hM : M = max (max (max (a 0) (a 1)) (a 2)) (a 3)) :
    Ideal.div (o 0 * Ideal.exp (a 0 - M) + o 1 * Ideal.exp (a 1 - M) + o 2 * Ideal.exp (a 2 - M) + o 3 * Ideal.exp (a 3 - M))
        (l 0 * Ideal.exp (a 0 - M) + l 1 * Ideal.exp (a 1 - M) + l 2 * Ideal.exp (a 2 - M) + l 3 * Ideal.exp (a 3 - M))
      = ∑ n, v n * Ideal.div (Ideal.exp ((x n : EReal) - Finset.univ.fold max ⊥ fun n => (x n : EReal)))
          (∑ n, Ideal.exp ((x n : EReal) - Finset.univ.fold max ⊥ fun n => (x n : EReal))) := by
  rw [max_blocks (fun n => (x n : EReal)) a ha] at hM
  obtain ⟨μ, hμ⟩ := fold_max_real (n := 4095) x
  have hμ' : (Finset.univ.fold max ⊥ fun n : Fin 4096 => (x n : EReal)) = (μ : EReal) := hμ
  have hα : ∀ j, ∃ α : ℝ, a j = (α : EReal) := fun j => by
    obtain ⟨α, h⟩ := fold_max_real (n := 1023) fun k => x (pos j k)
    exact ⟨α, (ha j).trans h⟩
  choose α hα using hα
  rw [hμ'] at hM ⊢
  subst hM
  have eo : ∀ j, o j * Ideal.exp (a j - (μ : EReal)) = ∑ k, v (pos j k) * (Real.exp (x (pos j k) - μ) : EReal) := fun j => by
    rw [ho, hα]; exact rescale _ (fun k => x (pos j k)) (fun k => v (pos j k)) (α j) μ
  have el : ∀ j, l j * Ideal.exp (a j - (μ : EReal)) = ((∑ k, Real.exp (x (pos j k) - μ) : ℝ) : EReal) := fun j => by
    rw [hl, hα]; exact rescale_weight _ (fun k => x (pos j k)) (α j) μ
  have hL : ∀ n, Ideal.exp ((x n : EReal) - (μ : EReal)) = (Real.exp (x n - μ) : EReal) := fun n => by rw [← EReal.coe_sub, Ideal.exp_coe]
  have hpos : 0 < ∑ n, Real.exp (x n - μ) := Finset.sum_pos (fun n _ => Real.exp_pos _) ⟨0, Finset.mem_univ _⟩
  rw [four fun j => o j * Ideal.exp (a j - (μ : EReal)), four fun j => l j * Ideal.exp (a j - (μ : EReal))]
  simp only [eo, el, hL]
  rw [← sum_pos fun n => v n * (Real.exp (x n - μ) : EReal), coe_sum, ← sum_pos fun n => Real.exp (x n - μ), coe_sum,
    Ideal.div_coe hpos.ne', sum_mul_real _ _ (one_div_pos.mpr hpos).le]
  refine Finset.sum_congr rfl fun n _ => ?_
  rw [Ideal.div_coe hpos.ne', mul_assoc]

end Cert.Softmax

end
-- ==== Proof.Value.Inputs.lean ====
/-
  What the claim's hypotheses say of the arrays: a device's keys and values are its place's block of the whole arrays, and the
  precondition makes every query and key entry a real number.
-/
module

public import proofs.«01_k».proof.Pre_finite_scores_KernelIdeal
public import proofs.«01_k».proof.Pre_finite_scores_ReferenceIdeal
public import proofs.«01_k».proof.Proof.Value.Softmax
public import proofs.«01_k».proof.Proof.KernelIdeal.Line
public import Idealize.ShloMosaic.Lib.Layout
public import Idealize.ShloMosaic.Lib.Pointwise

@[expose] public section

set_option maxRecDepth 16384

noncomputable section

namespace Cert.Inputs

open Idealize.ShloMosaic
open Cert.KernelIdeal.Exchange (place)
open Cert.Softmax (pos)

/-! ## The blocks -/

theorem block_coord : ∀ c : Fin 32, Layout.meshLin [2, 4, 4] c.val [1] = c.val / 4 % 4 := by decide +kernel

/-- Device `c`'s block holds the whole array's positions from 1024 times its place on the line. -/
theorem block_at {α : Type} (X : (⟨4, ![16, 4096, 16, 64]⟩ : Shape).Idx → α) (c : Dev Cert.KernelIdeal.nD) (b : Fin 16) (n : Fin 1024)
    (h : Fin 16) (d : Fin 64) :
    (Layout.blockN ⟨4, ![16, 1024, 16, 64]⟩ ⟨4, ![16, 4096, 16, 64]⟩ (Layout.meshBlock [2, 4, 4] ![[], [1], [], []] c) X) (ix4 b n h d)
      = X (ix4 b (pos (place c) n) h d) := by
  refine congrArg X (funext fun a => ?_)
  match a with
  | ⟨0, _⟩ => exact Fin.ext (show 0 * 16 + b.val = b.val by omega)
  | ⟨1, _⟩ =>
    refine Fin.ext (show Layout.meshLin [2, 4, 4] c.val [1] * 1024 + n.val = 1024 * (c.val / 4 % 4) + n.val from ?_)
    rw [block_coord c, mul_comm]
  | ⟨2, _⟩ => exact Fin.ext (show 0 * 16 + h.val = h.val by omega)
  | ⟨3, _⟩ => exact Fin.ext (show 0 * 64 + d.val = d.val by omega)

/-! ## The precondition -/

theorem facts_kernel : Cert.Pre_finite_scores_KernelIdeal.Facts := ⟨by decide, by decide, by decide⟩
theorem facts_reference : Cert.Pre_finite_scores_ReferenceIdeal.Facts := ⟨by decide, by decide, by decide⟩

theorem infinity : Ideal.ofBits .f32 0x7F800000#32 = ⊤ := by
  simp [Ideal.ofBits, Ideal.ieee]

/-- A number whose absolute value is below `⊤` is real. -/
theorem real_of_abs_lt {x : EReal} (hx : max x (-x) < ⊤) : ∃ r : ℝ, x = r := by
  induction x with
  | bot => simp at hx
  | coe r => exact ⟨r, rfl⟩
  | top => simp at hx

theorem both_true : ∀ p q : Bool, IntOp.andi (BitVec.ofBool p) (BitVec.ofBool q) = 1#1 → p = true ∧ q = true := by decide

theorem real_of_finite [Cert.Pre_finite_scores_KernelIdeal.Facts] (q : FVec Ideal ⟨4, ![16, 1, 16, 64]⟩ .f32)
    (k v : FVec Ideal ⟨4, ![16, 1024, 16, 64]⟩ .f32) (hf : Cert.Pre_finite_scores_KernelIdeal.fn q k v = fun _ => 1#1)
    (b : Fin 16) (n : Fin 1024) (h : Fin 16) (d : Fin 64) :
    (∃ r : ℝ, q (ix4 b 0 h d) = r) ∧ ∃ r : ℝ, k (ix4 b n h d) = r := by
  have e := congrFun hf (ix4 b n h d)
  unfold Cert.Pre_finite_scores_KernelIdeal.fn at e
  pointwise at e
  obtain ⟨hq, hk⟩ := both_true _ _ e
  rw [infinity] at hq hk
  exact ⟨real_of_abs_lt (of_decide_eq_true hq), real_of_abs_lt (of_decide_eq_true hk)⟩

end Cert.Inputs

end
-- ==== Proof.Value.Algebraic.lean ====
/-
  The kernel's result is the reference's: every device combines its line's four partial averages, which together range over all the
  keys and values of the whole arrays.
-/
module

public import proofs.«01_k».proof.Defs
public import proofs.«01_k».proof.Proof.Value.Array
public import proofs.«01_k».proof.Proof.Value.Reference
public import proofs.«01_k».proof.Proof.Value.Inputs

@[expose] public section

set_option maxRecDepth 16384

noncomputable section

namespace Cert.Claims

open Idealize.ShloMosaic Idealize.ShloMosaic.TcCoe Idealize.SL.Sem
open Cert.KernelIdeal (nD τ sig main_arg0 main_arg1 main_arg2 main_v5)
open Cert.KernelIdeal.Gen (V1 V4)
open Cert.KernelIdeal.Exchange Cert.KernelIdeal.Value
open Cert.Softmax (pos)

variable (m : (ℓ : Loc nD τ sig) → Buf (Elt Ideal) ℓ)

/-- Each device's arguments are its parts of the whole query, keys and values. -/
structure Parts (Q : FVec Ideal ⟨4, ![16, 1, 16, 64]⟩ .f32) (K V : FVec Ideal ⟨4, ![16, 4096, 16, 64]⟩ .f32) : Prop where
  query : ∀ c : Dev nD, m ((c.tc : Thread nD τ).loc main_arg0) = Q
  keys : ∀ (c : Dev nD) (b : Fin 16) (n : Fin 1024) (h : Fin 16) (d : Fin 64),
    m ((c.tc : Thread nD τ).loc main_arg1) (ix4 b n h d) = K (ix4 b (pos (place c) n) h d)
  values : ∀ (c : Dev nD) (b : Fin 16) (n : Fin 1024) (h : Fin 16) (d : Fin 64),
    m ((c.tc : Thread nD τ).loc main_arg2) (ix4 b n h d) = V (ix4 b (pos (place c) n) h d)

variable {m} {Q : FVec Ideal ⟨4, ![16, 1, 16, 64]⟩ .f32} {K V : FVec Ideal ⟨4, ![16, 4096, 16, 64]⟩ .f32}

/-- A device's score is the reference's, at the position its place puts the key. -/
theorem score_at (H : Parts m Q K V) (c : Dev nD) (b : Fin 16) (h : Fin 16) (n : Fin 1024) :
    Cert.KernelIdeal.Value.score (Cert.KernelIdeal.Partial.qBlk (V1 m) c b) (Cert.KernelIdeal.Partial.kBlk (V1 m) c b) h n
      = Cert.ReferenceIdeal.Value.score Q K b h (pos (place c) n) := by
  unfold Cert.KernelIdeal.Value.score Cert.ReferenceIdeal.Value.score
  simp only [query_at, keys_at, H.query, H.keys]

/-- With real scores, every entry of the result is the reference's. -/
theorem result_entry (H : Parts m Q K V) (x : Fin 16 → Fin 16 → Fin 4096 → ℝ)
    (hx : ∀ b h n, Cert.ReferenceIdeal.Value.score Q K b h n = (x b h n : EReal)) (c : Dev nD) (b : Fin 16) (h : Fin 16) (d : Fin 64) :
    (V4 m (outs m) c main_v5 : (⟨⟨4, ![16, 1, 16, 64]⟩, .f32⟩ : BufTy).Contents (Elt Ideal)) (ix4 b 0 h d)
      = Cert.ReferenceIdeal.Value.attended Q K V (ix4 b 0 h d) := by
  rw [result_at, outv_apply, Cert.ReferenceIdeal.Value.attended_apply]
  simp only [packed_rows, rows_top, rows_sum, rows_weight, top, score_at H, values_at, H.values, place_atPlace, hx]
  exact Cert.Softmax.combine (x b h) (fun n => V (ix4 b n h d)) _ _ _ (fun _ => rfl) (fun _ => rfl) (fun _ => rfl) _ rfl

theorem result_eq (H : Parts m Q K V) (x : Fin 16 → Fin 16 → Fin 4096 → ℝ)
    (hx : ∀ b h n, Cert.ReferenceIdeal.Value.score Q K b h n = (x b h n : EReal)) (c : Dev nD) :
    (V4 m (outs m) c main_v5 : (⟨⟨4, ![16, 1, 16, 64]⟩, .f32⟩ : BufTy).Contents (Elt Ideal)) = Cert.ReferenceIdeal.Value.attended Q K V := by
  funext i
  have e : i = ix4 (i 0) 0 (i 2) (i 3) := by
    funext a
    match a with
    | ⟨0, _⟩ => rfl
    | ⟨1, _⟩ => exact Fin.ext (by have h : (i 1).val < 1 := (i 1).isLt; show (i 1).val = 0; omega)
    | ⟨2, _⟩ => rfl
    | ⟨3, _⟩ => rfl
  rw [e]
  exact result_entry H x hx c (i 0) (i 2) (i 3)

/-- Real queries and keys have real scores. -/
theorem score_real (hQ : ∀ b h d, ∃ r : ℝ, Q (ix4 b 0 h d) = r) (hK : ∀ b n h d, ∃ r : ℝ, K (ix4 b n h d) = r) (b h : Fin 16)
    (n : Fin 4096) : ∃ r : ℝ, Cert.ReferenceIdeal.Value.score Q K b h n = r := by
  choose q hq using hQ
  choose k hk using hK
  refine ⟨(∑ d, q b h d * k b n h d) * (1 / 8), ?_⟩
  unfold Cert.ReferenceIdeal.Value.score
  simp only [hq, hk, scale, ← EReal.coe_mul, Cert.Softmax.coe_sum]

/-- The precondition makes the whole query and the whole keys real: every position lies in some device's block. -/
theorem inputs_real [Cert.Pre_finite_scores_KernelIdeal.Facts] (H : Parts m Q K V) (hpre : Pre_KernelIdeal_finite_scores_KernelIdeal m) :
    (∀ b h d, ∃ r : ℝ, Q (ix4 b 0 h d) = r) ∧ ∀ b n h d, ∃ r : ℝ, K (ix4 b n h d) = r := by
  have fin := fun (c : Dev nD) b n h d => Cert.Inputs.real_of_finite _ _ _ (hpre c) b n h d
  refine ⟨fun b h d => ?_, fun b n h d => ?_⟩
  · obtain ⟨r, hr⟩ := (fin 0 b 0 h d).1
    exact ⟨r, (congrFun (H.query 0) (ix4 b 0 h d)).symm.trans hr⟩
  · obtain ⟨j, k, rfl⟩ := Cert.Softmax.pos_surj n
    obtain ⟨r, hr⟩ := (fin (atPlace 0 j) b k h d).2
    have e := H.keys (atPlace 0 j) b k h d
    rw [place_atPlace] at e
    exact ⟨r, e.symm.trans hr⟩

theorem algebraic :
    algebraic_KernelIdeal_ReferenceIdeal_pre_finite_scores_KernelIdeal (hKernelIdeal := Cert.KernelIdeal.Gen.facts)
      (hReferenceIdeal := Cert.ReferenceIdeal.Gen.facts) (hPre_finite_scores_KernelIdeal := Cert.Inputs.facts_kernel) := by
  intro m g m' g' hpre hargs
  letI := Cert.Inputs.facts_kernel
  have H : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hargs c).1,
      fun c b n h d => (congrFun (hargs c).2.1 (ix4 b n h d)).trans (Cert.Inputs.block_at _ c b n h d),
      fun c b n h d => (congrFun (hargs c).2.2 (ix4 b n h d)).trans (Cert.Inputs.block_at _ c b n h d)⟩
  obtain ⟨hQ, hK⟩ := inputs_real H hpre
  choose x hx using score_real hQ hK
  refine ⟨Cert.ReferenceIdeal.Value.attended (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run _ _ _).mono (fun r h c => ?_) (Cert.KernelIdeal.Exchange.run m g)
    obtain ⟨h5, h0, h1, h2⟩ := h.1 c
    exact ⟨h5.trans (result_eq H x hx c), h0, h1, h2⟩
  · exact (θ_run _ _ _).mono (fun r h => h 0) (Cert.ReferenceIdeal.Value.run m' g')

end Cert.Claims

end
-- ==== Proof.lean ====
/-
  The certificate: its claims, each from its own module.
-/
module

public import proofs.«01_k».proof.Defs
public import proofs.«01_k».proof.Proof.Claims.Frames
public import proofs.«01_k».proof.Proof.Value.Algebraic

@[expose] public section

noncomputable section

namespace Cert.Proof

open Idealize.ShloMosaic

/-- Every claim of the certificate. -/
theorem claim : Cert.Claim :=
  ⟨Cert.Kernel.Gen.facts, Cert.KernelIdeal.Gen.facts, Cert.ReferenceIdeal.Gen.facts, Cert.Inputs.facts_kernel, Cert.Inputs.facts_reference,
    Cert.Claims.frame_printed, Cert.Claims.frame_ideal, fun m g _ => Cert.Claims.frame_ideal m g True.intro,
    Cert.Claims.frame_reference, fun m g _ => Cert.Claims.frame_reference m g True.intro, trivial, Cert.Claims.algebraic⟩

end Cert.Proof

end
